-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16384x1024 : Shape := ⟨2, ![16384, 1024]⟩
abbrev S1x2x5632 : Shape := ⟨3, ![1, 2, 5632]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S3x5632 : Shape := ⟨2, ![3, 5632]⟩
abbrev S5632 : Shape := ⟨1, ![5632]⟩
abbrev S2816x1024 : Shape := ⟨2, ![2816, 1024]⟩
abbrev S1024x5632 : Shape := ⟨2, ![1024, 5632]⟩
abbrev S_ : Shape := ⟨0, ![]⟩
abbrev S1 : Shape := ⟨1, ![1]⟩
abbrev S8x2x5632 : Shape := ⟨3, ![8, 2, 5632]⟩
abbrev S256x1024 : Shape := ⟨2, ![256, 1024]⟩
abbrev S44x264x128 : Shape := ⟨3, ![44, 264, 128]⟩
abbrev S256x2816 : Shape := ⟨2, ![256, 2816]⟩
abbrev S1x2x128 : Shape := ⟨3, ![1, 2, 128]⟩
abbrev S2x128 : Shape := ⟨2, ![2, 128]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x128 : Shape := ⟨2, ![256, 128]⟩
abbrev S1x256x128 : Shape := ⟨3, ![1, 256, 128]⟩
abbrev S1x128 : Shape := ⟨2, ![1, 128]⟩
abbrev S64x128 : Shape := ⟨2, ![64, 128]⟩
abbrev S1x64x128 : Shape := ⟨3, ![1, 64, 128]⟩
abbrev S44x8x128 : Shape := ⟨3, ![44, 8, 128]⟩

abbrev nBuf : Space → Nat
  | .hbm => 22
  | .vmem => 18
  | .smem => 1
  | _ => 0

abbrev bufTy : (tb : Table) → Fin (tcTables nBuf tb) → BufTy
  | .hbm, ⟨0, _⟩ => ⟨S16384x1024, .f32⟩
  | .hbm, ⟨1, _⟩ => ⟨S1x2x5632, .f32⟩
  | .hbm, ⟨2, _⟩ => ⟨S1x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S3x5632, .f32⟩
  | .hbm, ⟨9, _⟩ => ⟨S5632, .f32⟩
  | .hbm, ⟨10, _⟩ => ⟨S1x5632, .f32⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024x5632, .f32⟩
  | .hbm, ⟨17, _⟩ => ⟨S1024x5632, .bf16⟩
  | .hbm, ⟨18, _⟩ => ⟨S_, .i32⟩
  | .hbm, ⟨19, _⟩ => ⟨S1, .i32⟩
  | .hbm, ⟨20, _⟩ => ⟨S16384x1024, .f32⟩
  | .hbm, ⟨21, _⟩ => ⟨S8x2x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x5632, .bf16⟩
  | .local _ .vmem, ⟨6, _⟩ => ⟨S1x2x5632, .f32⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x2x5632, .f32⟩
  | .local _ .vmem, ⟨14, _⟩ => ⟨S1x2x5632, .f32⟩
  | .local _ .vmem, ⟨15, _⟩ => ⟨S44x264x128, .f32⟩
  | .local _ .vmem, ⟨16, _⟩ => ⟨S44x264x128, .f32⟩
  | .local _ .vmem, ⟨17, _⟩ => ⟨S256x2816, .bf16⟩
  | .local _ .smem, ⟨0, _⟩ => ⟨S1, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond5 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c1_i32_5 : BitVec 32 := 1#32
  let v11 : BitVec 32 := Scalar.subi arg0 c1_i32_5
  let c0_i32_6 : BitVec 32 := 0#32
  let v12 : BitVec 32 := Scalar.maxsi v11 c0_i32_6
  let c8_i32 : BitVec 32 := 8#32
  let v13 : BitVec 32 := Scalar.remsi v12 c8_i32
  let c7_i32 : BitVec 32 := 7#32
  let v6254 : BitVec 1 := Scalar.cmpi .eq v13 c7_i32
  let v6255 : BitVec 32 := Scalar.extui v6254
  let c0_i32_3721 : BitVec 32 := 0#32
  let v6256 : BitVec 1 := Scalar.cmpi .ne v6255 c0_i32_3721
  v6256

def k0_cond7 (i : grid0.Coords) : BitVec 1 :=
  let arg0 : BitVec 32 := BitVec.ofNat 32 (i 0).val
  let c1_i32_5 : BitVec 32 := 1#32
  let v11 : BitVec 32 := Scalar.subi arg0 c1_i32_5
  let c0_i32_6 : BitVec 32 := 0#32
  let v12 : BitVec 32 := Scalar.maxsi v11 c0_i32_6
  let c8_i32 : BitVec 32 := 8#32
  let v13 : BitVec 32 := Scalar.remsi v12 c8_i32
  let c7_i32 : BitVec 32 := 7#32
  let v6254 : BitVec 1 := Scalar.cmpi .eq v13 c7_i32
  let v6255 : BitVec 32 := Scalar.extui v6254
  let c0_i32_3721 : BitVec 32 := 0#32
  let v6256 : BitVec 1 := Scalar.cmpi .ne v6255 c0_i32_3721
  v6256

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x1024 : Shape := ⟨2, ![16384, 1024]⟩
abbrev S1x2x5632 : Shape := ⟨3, ![1, 2, 5632]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S3x5632 : Shape := ⟨2, ![3, 5632]⟩
abbrev S5632 : Shape := ⟨1, ![5632]⟩
abbrev S1x1x5632 : Shape := ⟨3, ![1, 1, 5632]⟩
abbrev S8x2048x2816 : Shape := ⟨3, ![8, 2048, 2816]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x2x5632, .f32⟩
  | .hbm, ⟨2, _⟩ => ⟨S1x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S8x2048x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1024x5632, .f32⟩
  | .hbm, ⟨27, _⟩ => ⟨S8x2048x5632, .f32⟩
  | .hbm, ⟨28, _⟩ => ⟨S8x2x5632, .f32⟩
  | .hbm, ⟨29, _⟩ => ⟨S8x2050x5632, .f32⟩
  | .hbm, ⟨30, _⟩ => ⟨S3x5632, .f32⟩
  | .hbm, ⟨31, _⟩ => ⟨S8x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S8x2048x5632, .f32⟩
  | .hbm, ⟨49, _⟩ => ⟨S8x2048x5632, .f32⟩
  | .hbm, ⟨50, _⟩ => ⟨S8x2048x5632, .f32⟩
  | .hbm, ⟨51, _⟩ => ⟨S5632, .f32⟩
  | .hbm, ⟨52, _⟩ => ⟨S1x1x5632, .f32⟩
  | .hbm, ⟨53, _⟩ => ⟨S8x2048x5632, .f32⟩
  | .hbm, ⟨54, _⟩ => ⟨S8x2048x5632, .f32⟩
  | .hbm, ⟨55, _⟩ => ⟨S8x2048x2816, .f32⟩
  | .hbm, ⟨56, _⟩ => ⟨S8x2048x2816, .f32⟩
  | .hbm, ⟨57, _⟩ => ⟨S8x2048x2816, .f32⟩
  | .hbm, ⟨58, _⟩ => ⟨S_, .f32⟩
  | .hbm, ⟨59, _⟩ => ⟨S8x2048x2816, .f32⟩
  | .hbm, ⟨60, _⟩ => ⟨S8x2048x2816, .f32⟩
  | .hbm, ⟨61, _⟩ => ⟨S_, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x2816, .f32⟩
  | .hbm, ⟨66, _⟩ => ⟨S8x2048x2816, .f32⟩
  | .hbm, ⟨67, _⟩ => ⟨S2816x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x1024, .f32⟩
  | .hbm, ⟨82, _⟩ => ⟨S8x2048x1024, .f32⟩
  | .hbm, ⟨83, _⟩ => ⟨S1x1x1024, .f32⟩
  | .hbm, ⟨84, _⟩ => ⟨S8x2048x1024, .f32⟩
  | .hbm, ⟨85, _⟩ => ⟨S8x2048x1024, .f32⟩
  | .hbm, ⟨86, _⟩ => ⟨S16384x1024, .f32⟩
  | .hbm, ⟨87, _⟩ => ⟨S8x2x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_2 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel2.lean ====
abbrev S1024x5632 : Shape := ⟨2, ![1024, 5632]⟩
abbrev S1024x1024 : Shape := ⟨2, ![1024, 1024]⟩
abbrev S1x128x2x5632 : Shape := ⟨4, ![1, 128, 2, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S128x2x5632 : Shape := ⟨3, ![128, 2, 5632]⟩
abbrev S128x5632 : Shape := ⟨2, ![128, 5632]⟩
abbrev S128x1024 : Shape := ⟨2, ![128, 1024]⟩
abbrev S16x2x5632 : Shape := ⟨3, ![16, 2, 5632]⟩
abbrev S16x16x5632 : Shape := ⟨3, ![16, 16, 5632]⟩
abbrev S128x2816 : Shape := ⟨2, ![128, 2816]⟩
abbrev S16x8x5632 : Shape := ⟨3, ![16, 8, 5632]⟩
abbrev S1x128 : Shape := ⟨2, ![1, 128]⟩
abbrev S1x1x128 : Shape := ⟨3, ![1, 1, 128]⟩
abbrev S16x8x128 : Shape := ⟨3, ![16, 8, 128]⟩
abbrev S128x128 : Shape := ⟨2, ![128, 128]⟩
abbrev S128 : Shape := ⟨1, ![128]⟩
abbrev S128x1 : Shape := ⟨2, ![128, 1]⟩

abbrev nBuf : Space → Nat
  | .hbm => 16
  | .vmem => 16
  | .smem => 0
  | _ => 0

abbrev bufTy : (tb : Table) → Fin (tcTables nBuf tb) → BufTy
  | .hbm, ⟨0, _⟩ => ⟨S1024x5632, .f32⟩
  | .hbm, ⟨1, _⟩ => ⟨S1024x1024, .f32⟩
  | .hbm, ⟨2, _⟩ => ⟨S1x128x2x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S3x5632, .f32⟩
  | .hbm, ⟨8, _⟩ => ⟨S5632, .f32⟩
  | .hbm, ⟨9, _⟩ => ⟨S1x5632, .f32⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S128x2x5632, .f32⟩
  | .hbm, ⟨14, _⟩ => ⟨S1024x1024, .f32⟩
  | .hbm, ⟨15, _⟩ => ⟨S128x2x5632, .f32⟩
  | .local _ .vmem, ⟨0, _⟩ => ⟨S128x5632, .f32⟩
  | .local _ .vmem, ⟨1, _⟩ => ⟨S128x5632, .f32⟩
  | .local _ .vmem, ⟨2, _⟩ => ⟨S128x1024, .f32⟩
  | .local _ .vmem, ⟨3, _⟩ => ⟨S128x1024, .f32⟩
  | .local _ .vmem, ⟨4, _⟩ => ⟨S16x2x5632, .f32⟩
  | .local _ .vmem, ⟨5, _⟩ => ⟨S16x2x5632, .f32⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S16x2x5632, .f32⟩
  | .local _ .vmem, ⟨13, _⟩ => ⟨S16x2x5632, .f32⟩
  | .local _ .vmem, ⟨14, _⟩ => ⟨S16x16x5632, .f32⟩
  | .local _ .vmem, ⟨15, _⟩ => ⟨S128x2816, .bf16⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S1024x5632 : Shape := ⟨2, ![1024, 5632]⟩
abbrev S1024x1024 : Shape := ⟨2, ![1024, 1024]⟩
abbrev S1x128x2x5632 : Shape := ⟨4, ![1, 128, 2, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S128x8x1024 : Shape := ⟨3, ![128, 8, 1024]⟩
abbrev S128x2x5632 : Shape := ⟨3, ![128, 2, 5632]⟩
abbrev S128x8x5632 : Shape := ⟨3, ![128, 8, 5632]⟩
abbrev S128x10x5632 : Shape := ⟨3, ![128, 10, 5632]⟩
abbrev S3x5632 : Shape := ⟨2, ![3, 5632]⟩
abbrev S5632 : Shape := ⟨1, ![5632]⟩
abbrev S1x1x5632 : Shape := ⟨3, ![1, 1, 5632]⟩
abbrev S128x8x2816 : Shape := ⟨3, ![128, 8, 2816]⟩
abbrev S_ : Shape := ⟨0, ![]⟩
abbrev S2816x1024 : Shape := ⟨2, ![2816, 1024]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S1024x1024, .f32⟩
  | .hbm, ⟨2, _⟩ => ⟨S1x128x2x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S128x8x1024, .f32⟩
  | .hbm, ⟨8, _⟩ => ⟨S128x2x5632, .f32⟩
  | .hbm, ⟨9, _⟩ => ⟨S128x8x5632, .f32⟩
  | .hbm, ⟨10, _⟩ => ⟨S128x10x5632, .f32⟩
  | .hbm, ⟨11, _⟩ => ⟨S3x5632, .f32⟩
  | .hbm, ⟨12, _⟩ => ⟨S128x8x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S128x8x5632, .f32⟩
  | .hbm, ⟨17, _⟩ => ⟨S128x8x5632, .f32⟩
  | .hbm, ⟨18, _⟩ => ⟨S128x8x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S128x8x5632, .f32⟩
  | .hbm, ⟨23, _⟩ => ⟨S128x8x5632, .f32⟩
  | .hbm, ⟨24, _⟩ => ⟨S128x8x5632, .f32⟩
  | .hbm, ⟨25, _⟩ => ⟨S128x8x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S128x8x5632, .f32⟩
  | .hbm, ⟨30, _⟩ => ⟨S128x8x5632, .f32⟩
  | .hbm, ⟨31, _⟩ => ⟨S128x8x5632, .f32⟩
  | .hbm, ⟨32, _⟩ => ⟨S5632, .f32⟩
  | .hbm, ⟨33, _⟩ => ⟨S1x1x5632, .f32⟩
  | .hbm, ⟨34, _⟩ => ⟨S128x8x5632, .f32⟩
  | .hbm, ⟨35, _⟩ => ⟨S128x8x5632, .f32⟩
  | .hbm, ⟨36, _⟩ => ⟨S128x8x2816, .f32⟩
  | .hbm, ⟨37, _⟩ => ⟨S128x8x2816, .f32⟩
  | .hbm, ⟨38, _⟩ => ⟨S128x8x2816, .f32⟩
  | .hbm, ⟨39, _⟩ => ⟨S_, .f32⟩
  | .hbm, ⟨40, _⟩ => ⟨S128x8x2816, .f32⟩
  | .hbm, ⟨41, _⟩ => ⟨S128x8x2816, .f32⟩
  | .hbm, ⟨42, _⟩ => ⟨S_, .f32⟩
  | .hbm, ⟨43, _⟩ => ⟨S128x8x2816, .f32⟩
  | .hbm, ⟨44, _⟩ => ⟨S128x8x2816, .f32⟩
  | .hbm, ⟨45, _⟩ => ⟨S128x8x2816, .f32⟩
  | .hbm, ⟨46, _⟩ => ⟨S128x8x2816, .f32⟩
  | .hbm, ⟨47, _⟩ => ⟨S128x8x2816, .f32⟩
  | .hbm, ⟨48, _⟩ => ⟨S2816x1024, .f32⟩
  | .hbm, ⟨49, _⟩ => ⟨S128x8x1024, .f32⟩
  | .hbm, ⟨50, _⟩ => ⟨S128x8x1024, .f32⟩
  | .hbm, ⟨51, _⟩ => ⟨S128x8x1024, .f32⟩
  | .hbm, ⟨52, _⟩ => ⟨S_, .f32⟩
  | .hbm, ⟨53, _⟩ => ⟨S128x8, .f32⟩
  | .hbm, ⟨54, _⟩ => ⟨S128x8x1, .f32⟩
  | .hbm, ⟨55, _⟩ => ⟨S_, .f32⟩
  | .hbm, ⟨56, _⟩ => ⟨S128x8x1, .f32⟩
  | .hbm, ⟨57, _⟩ => ⟨S128x8x1, .f32⟩
  | .hbm, ⟨58, _⟩ => ⟨S_, .f32⟩
  | .hbm, ⟨59, _⟩ => ⟨S128x8x1, .f32⟩
  | .hbm, ⟨60, _⟩ => ⟨S128x8x1, .f32⟩
  | .hbm, ⟨61, _⟩ => ⟨S128x8x1, .f32⟩
  | .hbm, ⟨62, _⟩ => ⟨S128x8x1024, .f32⟩
  | .hbm, ⟨63, _⟩ => ⟨S128x8x1024, .f32⟩
  | .hbm, ⟨64, _⟩ => ⟨S1x1x1024, .f32⟩
  | .hbm, ⟨65, _⟩ => ⟨S128x8x1024, .f32⟩
  | .hbm, ⟨66, _⟩ => ⟨S128x8x1024, .f32⟩
  | .hbm, ⟨67, _⟩ => ⟨S1024x1024, .f32⟩
  | .hbm, ⟨68, _⟩ => ⟨S128x2x5632, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_cst_0 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Runs.lean ====
/- What the runs of the feed-forward body share: the branch conditions in closed form over the points, where its outputs are idle, and the staging and scratch buffers. -/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — decided over the grid. -/
theorem hcond0_1 : ∀ t : Fin cfg0.N, cond0_1 (grid0.coords t) ↔ t.val % 2 = 0 :=
  (by decide +kernel : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := (Scalar.cmpi .ne (Scalar.extui (Scalar.cmpi .eq (Scalar.remsi (Scalar.maxsi (Scalar.subi (BitVec.ofNat 32 (i 0).val) 1#32) 0#32) 8#32) 0#32)) 0#32) = 1#1
/-- It holds at points 0, 1, 9, 17, 25, 33, 41, 49 and 57 only — decided over the grid. -/
theorem hcond0_2 : ∀ t : Fin cfg0.N, cond0_2 (grid0.coords t) ↔ (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57) :=
  (by decide +kernel : ∀ t : Fin grid0.N, cond0_2 (grid0.coords t) ↔ (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57))

/-- The condition of the body's `scf.if` 3 (`k0_h4`), from the grid coordinates (the skeleton's scalar
    chain substituted). -/
abbrev cond0_3 (i : grid0.Coords) : Prop := k0_cond4 i = 1#1
/-- It holds at points 8, 16, 24, 32, 40, 48, 56 and 64 only — decided over the grid. -/
theorem hcond0_3 : ∀ t : Fin cfg0.N, cond0_3 (grid0.coords t) ↔ (t.val % 65 = 8 ∨ t.val % 65 = 16 ∨ t.val % 65 = 24 ∨ t.val % 65 = 32 ∨ t.val % 65 = 40 ∨ t.val % 65 = 48 ∨ t.val % 65 = 56 ∨ t.val % 65 = 64) :=
  (by decide +kernel : ∀ t : Fin grid0.N, cond0_3 (grid0.coords t) ↔ (t.val % 65 = 8 ∨ t.val % 65 = 16 ∨ t.val % 65 = 24 ∨ t.val % 65 = 32 ∨ t.val % 65 = 40 ∨ t.val % 65 = 48 ∨ t.val % 65 = 56 ∨ t.val % 65 = 64))

/-- The condition of the body's `scf.if` 4 (`k0_h5`), from the grid coordinates (the skeleton's scalar
    chain substituted). -/
abbrev cond0_4 (i : grid0.Coords) : Prop := k0_cond5 i = 1#1
/-- It holds at the points ≡ 1 (mod 2) — decided over the grid. -/
theorem hcond0_4 : ∀ t : Fin cfg0.N, cond0_4 (grid0.coords t) ↔ t.val % 2 = 1 :=
  (by decide +kernel : ∀ t : Fin grid0.N, cond0_4 (grid0.coords t) ↔ t.val % 2 = 1)

/-- The condition of the body's `scf.if` 5 (`k0_h6`), from the grid coordinates (the skeleton's scalar
    chain substituted). -/
abbrev cond0_5 (i : grid0.Coords) : Prop := (Scalar.cmpi .ne (Scalar.extui (Scalar.cmpi .eq (Scalar.remsi (Scalar.maxsi (Scalar.subi (BitVec.ofNat 32 (i 0).val) 1#32) 0#32) 8#32) 0#32)) 0#32) = 1#1
/-- It holds at points 0, 1, 9, 17, 25, 33, 41, 49 and 57 only — decided over the grid. -/
theorem hcond0_5 : ∀ t : Fin cfg0.N, cond0_5 (grid0.coords t) ↔ (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57) :=
  (by decide +kernel : ∀ t : Fin grid0.N, cond0_5 (grid0.coords t) ↔ (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57))

/-- The condition of the body's `scf.if` 6 (`k0_h7`), from the grid coordinates (the skeleton's scalar
    chain substituted). -/
abbrev cond0_6 (i : grid0.Coords) : Prop := k0_cond7 i = 1#1
/-- It holds at points 8, 16, 24, 32, 40, 48, 56 and 64 only — decided over the grid. -/
theorem hcond0_6 : ∀ t : Fin cfg0.N, cond0_6 (grid0.coords t) ↔ (t.val % 65 = 8 ∨ t.val % 65 = 16 ∨ t.val % 65 = 24 ∨ t.val % 65 = 32 ∨ t.val % 65 = 40 ∨ t.val % 65 = 48 ∨ t.val % 65 = 56 ∨ t.val % 65 = 64) :=
  (by decide +kernel : ∀ t : Fin grid0.N, cond0_6 (grid0.coords t) ↔ (t.val % 65 = 8 ∨ t.val % 65 = 16 ∨ t.val % 65 = 24 ∨ t.val % 65 = 32 ∨ t.val % 65 = 40 ∨ t.val % 65 = 48 ∨ t.val % 65 = 56 ∨ t.val % 65 = 64))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- Case B's branch conditions on the grid, as one proposition. -/
abbrev conds0_B (i : grid0.Coords) : Prop := ¬cond0_0 i ∧ ¬cond0_1 i ∧ cond0_4 i ∧ cond0_5 i ∧ ¬cond0_6 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- Case C's branch conditions on the grid, as one proposition. -/
abbrev conds0_C (i : grid0.Coords) : Prop := ¬cond0_0 i ∧ cond0_1 i ∧ ¬cond0_2 i ∧ ¬cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- Case D's branch conditions on the grid, as one proposition. -/
abbrev conds0_D (i : grid0.Coords) : Prop := ¬cond0_0 i ∧ ¬cond0_1 i ∧ cond0_4 i ∧ ¬cond0_5 i ∧ ¬cond0_6 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- Case E's branch conditions on the grid, as one proposition. -/
abbrev conds0_E (i : grid0.Coords) : Prop := ¬cond0_0 i ∧ cond0_1 i ∧ ¬cond0_2 i ∧ cond0_3 i ∧ ¬cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- At the points of case A the printed configuration (`Cfg.idle`) calls output 10 live: the case stores into it. -/
theorem liveAt0_10_A : ∀ t : Fin cfg0.N, cond0_0 (grid0.coords t) → cond0_1 (grid0.coords t) → cond0_2 (grid0.coords t) → ¬cond0_3 (grid0.coords t) → ¬cond0_4 (grid0.coords t) → cfg0.idle 10 (grid0.coords t) = false :=
  fun t h0 h1 h2 h3 h4 => (by decide +kernel : ∀ t : Fin cfg0.N, conds0_A (grid0.coords t) → cfg0.idle 10 (grid0.coords t) = false) t ⟨h0, h1, h2, h3, h4⟩
/-- At the points of case B the printed configuration (`Cfg.idle`) calls output 10 live: the case stores into it. -/
theorem liveAt0_10_B : ∀ t : Fin cfg0.N, ¬cond0_0 (grid0.coords t) → ¬cond0_1 (grid0.coords t) → cond0_4 (grid0.coords t) → cond0_5 (grid0.coords t) → ¬cond0_6 (grid0.coords t) → cfg0.idle 10 (grid0.coords t) = false :=
  fun t h0 h1 h4 h5 h6 => (by decide +kernel : ∀ t : Fin cfg0.N, conds0_B (grid0.coords t) → cfg0.idle 10 (grid0.coords t) = false) t ⟨h0, h1, h4, h5, h6⟩
/-- At the points of case C the printed configuration (`Cfg.idle`) calls output 10 live: the case stores into it. -/
theorem liveAt0_10_C : ∀ t : Fin cfg0.N, ¬cond0_0 (grid0.coords t) → cond0_1 (grid0.coords t) → ¬cond0_2 (grid0.coords t) → ¬cond0_3 (grid0.coords t) → ¬cond0_4 (grid0.coords t) → cfg0.idle 10 (grid0.coords t) = false :=
  fun t h0 h1 h2 h3 h4 => (by decide +kernel : ∀ t : Fin cfg0.N, conds0_C (grid0.coords t) → cfg0.idle 10 (grid0.coords t) = false) t ⟨h0, h1, h2, h3, h4⟩
/-- At the points of case D the printed configuration (`Cfg.idle`) calls output 10 live: the case stores into it. -/
theorem liveAt0_10_D : ∀ t : Fin cfg0.N, ¬cond0_0 (grid0.coords t) → ¬cond0_1 (grid0.coords t) → cond0_4 (grid0.coords t) → ¬cond0_5 (grid0.coords t) → ¬cond0_6 (grid0.coords t) → cfg0.idle 10 (grid0.coords t) = false :=
  fun t h0 h1 h4 h5 h6 => (by decide +kernel : ∀ t : Fin cfg0.N, conds0_D (grid0.coords t) → cfg0.idle 10 (grid0.coords t) = false) t ⟨h0, h1, h4, h5, h6⟩
/-- At the points of case E the printed configuration (`Cfg.idle`) calls output 10 live: the case stores into it. -/
theorem liveAt0_10_E : ∀ t : Fin cfg0.N, ¬cond0_0 (grid0.coords t) → cond0_1 (grid0.coords t) → ¬cond0_2 (grid0.coords t) → cond0_3 (grid0.coords t) → ¬cond0_4 (grid0.coords t) → cfg0.idle 10 (grid0.coords t) = false :=
  fun t h0 h1 h2 h3 h4 => (by decide +kernel : ∀ t : Fin cfg0.N, conds0_E (grid0.coords t) → cfg0.idle 10 (grid0.coords t) = false) t ⟨h0, h1, h2, h3, h4⟩
/-- At the points of case A the printed configuration (`Cfg.idle`) calls output 11 idle: the case stores nothing into it. -/
theorem idleAt0_11_A : ∀ t : Fin cfg0.N, cond0_0 (grid0.coords t) → cond0_1 (grid0.coords t) → cond0_2 (grid0.coords t) → ¬cond0_3 (grid0.coords t) → ¬cond0_4 (grid0.coords t) → cfg0.idle 11 (grid0.coords t) = true :=
  fun t h0 h1 h2 h3 h4 => (by decide +kernel : ∀ t : Fin cfg0.N, conds0_A (grid0.coords t) → cfg0.idle 11 (grid0.coords t) = true) t ⟨h0, h1, h2, h3, h4⟩
/-- At the points of case A the pipeline does not write output 11's block back. -/
theorem noFlush0_11_A : ∀ t : Fin cfg0.N, cond0_0 (grid0.coords t) → cond0_1 (grid0.coords t) → cond0_2 (grid0.coords t) → ¬cond0_3 (grid0.coords t) → ¬cond0_4 (grid0.coords t) → (cfg0.win 11).flush t = false :=
  fun t h0 h1 h2 h3 h4 => (by decide +kernel : ∀ t : Fin cfg0.N, conds0_A (grid0.coords t) → (cfg0.win 11).flush t = false) t ⟨h0, h1, h2, h3, h4⟩
/-- At the points of case B the printed configuration (`Cfg.idle`) calls output 11 idle: the case stores nothing into it. -/
theorem idleAt0_11_B : ∀ t : Fin cfg0.N, ¬cond0_0 (grid0.coords t) → ¬cond0_1 (grid0.coords t) → cond0_4 (grid0.coords t) → cond0_5 (grid0.coords t) → ¬cond0_6 (grid0.coords t) → cfg0.idle 11 (grid0.coords t) = true :=
  fun t h0 h1 h4 h5 h6 => (by decide +kernel : ∀ t : Fin cfg0.N, conds0_B (grid0.coords t) → cfg0.idle 11 (grid0.coords t) = true) t ⟨h0, h1, h4, h5, h6⟩
/-- At the points of case B the pipeline does not write output 11's block back. -/
theorem noFlush0_11_B : ∀ t : Fin cfg0.N, ¬cond0_0 (grid0.coords t) → ¬cond0_1 (grid0.coords t) → cond0_4 (grid0.coords t) → cond0_5 (grid0.coords t) → ¬cond0_6 (grid0.coords t) → (cfg0.win 11).flush t = false :=
  fun t h0 h1 h4 h5 h6 => (by decide +kernel : ∀ t : Fin cfg0.N, conds0_B (grid0.coords t) → (cfg0.win 11).flush t = false) t ⟨h0, h1, h4, h5, h6⟩
/-- At the points of case C the printed configuration (`Cfg.idle`) calls output 11 idle: the case stores nothing into it. -/
theorem idleAt0_11_C : ∀ t : Fin cfg0.N, ¬cond0_0 (grid0.coords t) → cond0_1 (grid0.coords t) → ¬cond0_2 (grid0.coords t) → ¬cond0_3 (grid0.coords t) → ¬cond0_4 (grid0.coords t) → cfg0.idle 11 (grid0.coords t) = true :=
  fun t h0 h1 h2 h3 h4 => (by decide +kernel : ∀ t : Fin cfg0.N, conds0_C (grid0.coords t) → cfg0.idle 11 (grid0.coords t) = true) t ⟨h0, h1, h2, h3, h4⟩
/-- At the points of case C the pipeline does not write output 11's block back. -/
theorem noFlush0_11_C : ∀ t : Fin cfg0.N, ¬cond0_0 (grid0.coords t) → cond0_1 (grid0.coords t) → ¬cond0_2 (grid0.coords t) → ¬cond0_3 (grid0.coords t) → ¬cond0_4 (grid0.coords t) → (cfg0.win 11).flush t = false :=
  fun t h0 h1 h2 h3 h4 => (by decide +kernel : ∀ t : Fin cfg0.N, conds0_C (grid0.coords t) → (cfg0.win 11).flush t = false) t ⟨h0, h1, h2, h3, h4⟩
/-- At the points of case D the printed configuration (`Cfg.idle`) calls output 11 idle: the case stores nothing into it. -/
theorem idleAt0_11_D : ∀ t : Fin cfg0.N, ¬cond0_0 (grid0.coords t) → ¬cond0_1 (grid0.coords t) → cond0_4 (grid0.coords t) → ¬cond0_5 (grid0.coords t) → ¬cond0_6 (grid0.coords t) → cfg0.idle 11 (grid0.coords t) = true :=
  fun t h0 h1 h4 h5 h6 => (by decide +kernel : ∀ t : Fin cfg0.N, conds0_D (grid0.coords t) → cfg0.idle 11 (grid0.coords t) = true) t ⟨h0, h1, h4, h5, h6⟩
/-- At the points of case D the pipeline does not write output 11's block back. -/
theorem noFlush0_11_D : ∀ t : Fin cfg0.N, ¬cond0_0 (grid0.coords t) → ¬cond0_1 (grid0.coords t) → cond0_4 (grid0.coords t) → ¬cond0_5 (grid0.coords t) → ¬cond0_6 (grid0.coords t) → (cfg0.win 11).flush t = false :=
  fun t h0 h1 h4 h5 h6 => (by decide +kernel : ∀ t : Fin cfg0.N, conds0_D (grid0.coords t) → (cfg0.win 11).flush t = false) t ⟨h0, h1, h4, h5, h6⟩
/-- At the points of case E the printed configuration (`Cfg.idle`) calls output 11 live: the case stores into it. -/
theorem liveAt0_11_E : ∀ t : Fin cfg0.N, ¬cond0_0 (grid0.coords t) → cond0_1 (grid0.coords t) → ¬cond0_2 (grid0.coords t) → cond0_3 (grid0.coords t) → ¬cond0_4 (grid0.coords t) → cfg0.idle 11 (grid0.coords t) = false :=
  fun t h0 h1 h2 h3 h4 => (by decide +kernel : ∀ t : Fin cfg0.N, conds0_E (grid0.coords t) → cfg0.idle 11 (grid0.coords t) = false) t ⟨h0, h1, h2, h3, h4⟩

/-! ## The kernel body on any staging memrefs: a subtype the run finds -/

/-- One staging buffer of output window 10, through which its contents are stated (`View.read_writes_of_cover`: the
    choice does not matter). -/
abbrev VO0_10 : View sig .tc .vmem S256x1024 .f32 := (Memref.whole cc0_stg10_0 : Memref sig .tc .vmem S256x1024 .f32).view
/-- One staging buffer of output window 11, through which its contents are stated (`View.read_writes_of_cover`: the
    choice does not matter). -/
abbrev VO0_11 : View sig .tc .vmem S1x2x5632 .f32 := (Memref.whole cc0_stg11_0 : Memref sig .tc .vmem S1x2x5632 .f32).view
/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x5632 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x5632 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x5632 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5632 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2816x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x5632 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S44x264x128 .f32 := Memref.whole cc0_scratch0
abbrev scM0_1 : Memref sig .tc .vmem S44x264x128 .f32 := Memref.whole cc0_scratch1
abbrev scM0_2 : Memref sig .tc .vmem S256x2816 .bf16 := Memref.whole cc0_scratch2
/-- The scratch `arg13` the kernel carries between points, as a view: what it holds is stated through it. -/
abbrev VS0_0 : View sig .tc .vmem S44x264x128 .f32 := scM0_0.view
/-- The scratch `arg14` the kernel carries between points, as a view: what it holds is stated through it. -/
abbrev VS0_1 : View sig .tc .vmem S44x264x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.RunA.lean ====
/- The body's run in case A, the pieces each buffer ends with as its witness. -/
module

public import proofs.«01_k».proof.Proof.Runs

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9312000 in
/-- What the body's stores leave in each output's staging memref, as pieces (last first) IN CASE A (`scf.if` 0 taken, `scf.if` 1 taken, `scf.if` 2 taken, `scf.if` 3 not taken, `scf.if` 4 not taken: points 0), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) :
    Σ' (L10 : List (View.Piece (Elt F) S256x1024 .f32)), Σ' (L11 : List (View.Piece (Elt F) S1x2x5632 .f32)), Σ' (LS0 : List (View.Piece (Elt F) S44x264x128 .f32)), Σ' (LS1 : List (View.Piece (Elt F) S44x264x128 .f32)), { LT2 : List (View.Piece (Elt F) S256x2816 .bf16) //
      ∀ (xi11 : Vec F S1x2x5632 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LT2)) -∗ K ⟨⟩))
          ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, ?_, fun xi11 E K => ?run⟩
  case run =>
    simp only [cc0_ffn_prompt_eq_skeleton]; unfold cc0_ffn_prompt_skel
    simp only [k0_part187_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part188_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part189_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [HS0]; · iexists _; iexact HS0
    isplitl [HS1]; · iexists _; iexact HS1
    iexists _; iexact HS2

end Cert.KernelIdeal.Body

end
-- ==== Proof.RunB.lean ====
/- The body's run in case B, the pieces each buffer ends with as its witness. -/
module

public import proofs.«01_k».proof.Proof.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9288000 in
/-- What the body's stores leave in each output's staging memref, as pieces (last first) IN CASE B (`scf.if` 0 not taken, `scf.if` 1 not taken, `scf.if` 4 taken, `scf.if` 5 taken, `scf.if` 6 not taken: points 1, 9, … 57: 8 of 65), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) :
    Σ' (L10 : List (View.Piece (Elt F) S256x1024 .f32)), Σ' (L11 : List (View.Piece (Elt F) S1x2x5632 .f32)), Σ' (LS0 : List (View.Piece (Elt F) S44x264x128 .f32)), Σ' (LS1 : List (View.Piece (Elt F) S44x264x128 .f32)), { LT2 : List (View.Piece (Elt F) S256x2816 .bf16) //
      ∀ (xi11 : Vec F S1x2x5632 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xs0 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ (arg13.view.loc (c : Thread nD τ) ↦[arg13.view.set]{fullShare} arg13.view.writes (Elt F) (harg13.unread xs0) LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LT2)) -∗ K ⟨⟩))
          ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, ?_, fun xi11 E K => ?run⟩
  case run =>
    simp only [cc0_ffn_prompt_eq_skeleton]; unfold cc0_ffn_prompt_skel
    simp only [k0_part376_eq_skeleton, k0_part206_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part377_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part378_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hfs0
    sl_exec (disch := first | sl_exact hc0 | sl_exact hc1 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [HS0]; · iexact HS0
    isplitl [HS1]; · iexists _; iexact HS1
    iexists _; iexact HS2

end Cert.KernelIdeal.Body

end
-- ==== Proof.RunC.lean ====
/- The body's run in case C, the pieces each buffer ends with as its witness. -/
module

public import proofs.«01_k».proof.Proof.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8520000 in
/-- What the body's stores leave in each output's staging memref, as pieces (last first) IN CASE C (`scf.if` 0 not taken, `scf.if` 1 taken, `scf.if` 2 not taken, `scf.if` 3 not taken, `scf.if` 4 not taken: points 2, 4, … 62: 24 of 65), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) :
    Σ' (L10 : List (View.Piece (Elt F) S256x1024 .f32)), Σ' (L11 : List (View.Piece (Elt F) S1x2x5632 .f32)), Σ' (LS0 : List (View.Piece (Elt F) S44x264x128 .f32)), Σ' (LS1 : List (View.Piece (Elt F) S44x264x128 .f32)), { LT2 : List (View.Piece (Elt F) S256x2816 .bf16) //
      ∀ (xi11 : Vec F S1x2x5632 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ (∃ d, owns (c : Thread nD τ) arg13 fullShare d) ∗ owns (c : Thread nD τ) arg14 fullShare xs1 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0) ∗ owns (c : Thread nD τ) arg14 fullShare xs1 ∗ (∃ f, arg15.view.loc (c : Thread nD τ) ↦[arg15.view.set]{fullShare} arg15.view.writes (Elt F) f LT2)) -∗ K ⟨⟩))
          ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, [], ?_, fun xi11 E K => ?run⟩
  case run =>
    simp only [cc0_ffn_prompt_eq_skeleton]; unfold cc0_ffn_prompt_skel
    simp only [k0_part187_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part188_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part189_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg14.eq_unread hfs1
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [HS0]; · iexists _; iexact HS0
    isplitl [HS1]
    · iexists _; isplitr; · ipureintro; exact harg14.read_unread _
      iexact HS1
    iexists _; iexact HS2

end Cert.KernelIdeal.Body

end
-- ==== Proof.RunD.lean ====
/- The body's run in case D, the pieces each buffer ends with as its witness. -/
module

public import proofs.«01_k».proof.Proof.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8520000 in
/-- What the body's stores leave in each output's staging memref, as pieces (last first) IN CASE D (`scf.if` 0 not taken, `scf.if` 1 not taken, `scf.if` 4 taken, `scf.if` 5 not taken, `scf.if` 6 not taken: points 3, 5, … 63: 24 of 65), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : ¬cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) :
    Σ' (L10 : List (View.Piece (Elt F) S256x1024 .f32)), Σ' (L11 : List (View.Piece (Elt F) S1x2x5632 .f32)), Σ' (LS0 : List (View.Piece (Elt F) S44x264x128 .f32)), Σ' (LS1 : List (View.Piece (Elt F) S44x264x128 .f32)), { LT2 : List (View.Piece (Elt F) S256x2816 .bf16) //
      ∀ (xi11 : Vec F S1x2x5632 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xs0 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xs0 ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LT2)) -∗ K ⟨⟩))
          ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], [], ?_, ?_, fun xi11 E K => ?run⟩
  case run =>
    simp only [cc0_ffn_prompt_eq_skeleton]; unfold cc0_ffn_prompt_skel
    simp only [k0_part376_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part377_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part378_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hfs0
    sl_exec (disch := first | sl_exact hc0 | sl_exact hc1 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [HS0]
    · iexists _; isplitr; · ipureintro; exact harg13.read_unread _
      iexact HS0
    isplitl [HS1]; · iexists _; iexact HS1
    iexists _; iexact HS2

end Cert.KernelIdeal.Body

end
-- ==== Proof.RunE.lean ====
/- The body's run in case E, the pieces each buffer ends with as its witness. -/
module

public import proofs.«01_k».proof.Proof.RunD

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9288000 in
/-- What the body's stores leave in each output's staging memref, as pieces (last first) IN CASE E (`scf.if` 0 not taken, `scf.if` 1 taken, `scf.if` 2 not taken, `scf.if` 3 taken, `scf.if` 4 not taken: points 8, 16, … 64: 8 of 65), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) :
    Σ' (L10 : List (View.Piece (Elt F) S256x1024 .f32)), Σ' (L11 : List (View.Piece (Elt F) S1x2x5632 .f32)), Σ' (LS0 : List (View.Piece (Elt F) S44x264x128 .f32)), Σ' (LS1 : List (View.Piece (Elt F) S44x264x128 .f32)), { LT2 : List (View.Piece (Elt F) S256x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ owns (c : Thread nD τ) arg14 fullShare xs1 ∗ (∃ f, arg15.view.loc (c : Thread nD τ) ↦[arg15.view.set]{fullShare} arg15.view.writes (Elt F) f LT2)) -∗ K ⟨⟩))
          ⊢ wp frame (wpE (defs₀ (F := F)) Variants.none c none) E (cc0_ffn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], ?_, fun E K => ?run⟩
  case run =>
    simp only [cc0_ffn_prompt_eq_skeleton]; unfold cc0_ffn_prompt_skel
    simp only [k0_part187_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part188_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part189_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs1
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [HS0]; · iexists _; iexact HS0
    isplitl [HS1]
    · iexists _; isplitr; · ipureintro; exact harg14.read_unread _
      iexact HS1
    iexists _; iexact HS2

end Cert.KernelIdeal.Body

end
-- ==== Proof.Outs.lean ====
/- What each case leaves in the outputs and the carried buffers, and what they hold after each point. -/
module

public import proofs.«01_k».proof.Proof.RunE
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 10 tile its block (1 store of `S256x1024`, checked by the kernel's evaluation: Lib/Ring.lean `Piece.tiledL`, linear in the pieces, through a loop's `@[irreducible]` trip theorem too), so they cover it. -/
theorem cover0_A_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).1 S256x1024.size (by sl_kernel_rfl) y

/-- What case A leaves in output 10's staging buffer: its pieces read back over junk. -/
def out0_A_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) : Vec F S256x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).1)

/-- Case A stores nothing into output 11 (the window is idle at its points and not written back there):
    no pieces — a placeholder (junk read back) that nothing consults, since at these points the window is neither
    written back nor read at the next point (Lib/Pipeline.lean "Idle points"). -/
def out0_A_11 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) : Vec F S1x2x5632 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.1)

/-- Case A's pieces for scratch `arg13`, which the kernel carries between points, cover it: one of them a store of the WHOLE buffer (Lib/Ring.lean `sl_whole_mem`). -/
theorem scover0_A_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (y : S44x264x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.2.1 (by sl_whole_mem) y

/-- What case A leaves in scratch `arg13`: its pieces read back over junk. -/
def sout0_A_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) : Vec F S44x264x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.2.1)

/-- Case A's pieces for scratch `arg14`, which the kernel carries between points, cover it: one of them a store of the WHOLE buffer (Lib/Ring.lean `sl_whole_mem`). -/
theorem scover0_A_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (y : S44x264x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.2.2.1 (by sl_whole_mem) y

/-- What case A leaves in scratch `arg14`: its pieces read back over junk. -/
def sout0_A_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : cond0_0 i) (hc1 : cond0_1 i) (hc2 : cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) : Vec F S44x264x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.2.2.1)

/-- Case B's pieces for output 10 tile its block (1 store of `S256x1024`, checked by the kernel's evaluation: Lib/Ring.lean `Piece.tiledL`, linear in the pieces, through a loop's `@[irreducible]` trip theorem too), so they cover it. -/
theorem cover0_B_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1 S256x1024.size (by sl_kernel_rfl) y

/-- What case B leaves in output 10's staging buffer: its pieces read back over junk. -/
def out0_B_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S256x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1)

/-- Case B stores nothing into output 11 (the window is idle at its points and not written back there):
    no pieces — a placeholder (junk read back) that nothing consults, since at these points the window is neither
    written back nor read at the next point (Lib/Pipeline.lean "Idle points"). -/
def out0_B_11 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S1x2x5632 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.1)

/-- What case B leaves in scratch `arg13`: its pieces (stores, a counted loop's segment) read back over what the point before left there, which it read first. -/
def sout0_B_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S44x264x128 .f32 :=
  arg13.view.read (Elt F) (arg13.view.writes (Elt F) (harg13.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.1)

/-- Case B's pieces for scratch `arg14`, which the kernel carries between points, cover it: 45 pieces (stores and landed copies) of several sizes (`S1x256x128`, `S44x8x128`) tiling it when cut into blocks of `![1, 8, 128]` (Lib/Ring.lean `Piece.tiledBy`). -/
theorem scover0_B_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) (y : S44x264x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1 ![1, 8, 128] (by sl_kernel_rfl) y

/-- What case B leaves in scratch `arg14`: its pieces read back over junk. -/
def sout0_B_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S44x264x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1)

/-- Case C's pieces for output 10 tile its block (1 store of `S256x1024`, checked by the kernel's evaluation: Lib/Ring.lean `Piece.tiledL`, linear in the pieces, through a loop's `@[irreducible]` trip theorem too), so they cover it. -/
theorem cover0_C_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1 S256x1024.size (by sl_kernel_rfl) y

/-- What case C leaves in output 10's staging buffer: its pieces read back over junk. -/
def out0_C_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S256x1024 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1)

/-- Case C stores nothing into output 11 (the window is idle at its points and not written back there):
    no pieces — a placeholder (junk read back) that nothing consults, since at these points the window is neither
    written back nor read at the next point (Lib/Pipeline.lean "Idle points"). -/
def out0_C_11 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S1x2x5632 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.1)

/-- Case C's pieces for scratch `arg13`, which the kernel carries between points, cover it: 45 pieces (stores and landed copies) of several sizes (`S1x256x128`, `S44x8x128`) tiling it when cut into blocks of `![1, 8, 128]` (Lib/Ring.lean `Piece.tiledBy`). -/
theorem scover0_C_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) (y : S44x264x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1 ![1, 8, 128] (by sl_kernel_rfl) y

/-- What case C leaves in scratch `arg13`: its pieces read back over junk. -/
def sout0_C_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S44x264x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1)

/-- Case C stores nothing into scratch `arg14`: it holds what the point before left. -/
def sout0_C_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : ¬cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S44x264x128 .f32 := xs1

/-- Case D's pieces for output 10 tile its block (1 store of `S256x1024`, checked by the kernel's evaluation: Lib/Ring.lean `Piece.tiledL`, linear in the pieces, through a loop's `@[irreducible]` trip theorem too), so they cover it. -/
theorem cover0_D_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : ¬cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) (y : S256x1024.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1 S256x1024.size (by sl_kernel_rfl) y

/-- What case D leaves in output 10's staging buffer: its pieces read back over junk. -/
def out0_D_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : ¬cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S256x1024 .f32 :=
  VO0_10.read (Elt F) (VO0_10.writes (Elt F) VO0_10.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1)

/-- Case D stores nothing into output 11 (the window is idle at its points and not written back there):
    no pieces — a placeholder (junk read back) that nothing consults, since at these points the window is neither
    written back nor read at the next point (Lib/Pipeline.lean "Idle points"). -/
def out0_D_11 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : ¬cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S1x2x5632 .f32 :=
  VO0_11.read (Elt F) (VO0_11.writes (Elt F) VO0_11.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.1)

/-- Case D stores nothing into scratch `arg13`: it holds what the point before left. -/
def sout0_D_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : ¬cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S44x264x128 .f32 := xs0

/-- Case D's pieces for scratch `arg14`, which the kernel carries between points, cover it: 45 pieces (stores and landed copies) of several sizes (`S1x256x128`, `S44x8x128`) tiling it when cut into blocks of `![1, 8, 128]` (Lib/Ring.lean `Piece.tiledBy`). -/
theorem scover0_D_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : ¬cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) (y : S44x264x128.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1, y ∈ pc.1.set :=
  View.cover_of_tiledBy (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1 ![1, 8, 128] (by sl_kernel_rfl) y

/-- What case D leaves in scratch `arg14`: its pieces read back over junk. -/
def sout0_D_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : ¬cond0_1 i) (hc4 : cond0_4 i) (hc5 : ¬cond0_5 i) (hc6 : ¬cond0_6 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs0 : Vec F S44x264x128 .f32) : Vec F S44x264x128 .f32 :=
  VS0_1.read (Elt F) (VS0_1.writes (Elt F) VS0_1.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1)

/-- Case E's pieces for output 10 tile its block (1 store of `S256x1024`, checked by the kernel's evaluation: Lib/Ring.lean `Piece.tiledL`, linear in the pieces, through a loop's `@[irreducible]` trip theorem too), so they cover it. -/
theorem cover0_E_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) (y : S256x1024.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1 S256x1024.size (by sl_kernel_rfl) y

/-- What case E leaves in output 10's staging buffer: its pieces read back over junk. -/
def out0_E_10 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S256x1024 .f32 :=
  VO0_10.read (Elt F) (VO0_10.writes (Elt F) VO0_10.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1)

/-- Case E's pieces for output 11 tile its block (44 stores of `S1x2x128`, checked by the kernel's evaluation: Lib/Ring.lean `Piece.tiledL`, linear in the pieces, through a loop's `@[irreducible]` trip theorem too), so they cover it. -/
theorem cover0_E_11 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) (y : S1x2x5632.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.1 S1x2x128.size (by sl_kernel_rfl) y

/-- What case E leaves in output 11's staging buffer: its pieces read back over junk. -/
def out0_E_11 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S1x2x5632 .f32 :=
  VO0_11.read (Elt F) (VO0_11.writes (Elt F) VO0_11.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.1)

/-- Case E's pieces for scratch `arg13`, which the kernel carries between points, cover it: 45 pieces (stores and landed copies) of several sizes (`S1x256x128`, `S44x8x128`) tiling it when cut into blocks of `![1, 8, 128]` (Lib/Ring.lean `Piece.tiledBy`). -/
theorem scover0_E_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) (y : S44x264x128.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1, y ∈ pc.1.set :=
  View.cover_of_tiledBy (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1 ![1, 8, 128] (by sl_kernel_rfl) y

/-- What case E leaves in scratch `arg13`: its pieces read back over junk. -/
def sout0_E_0 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S44x264x128 .f32 :=
  VS0_0.read (Elt F) (VS0_0.writes (Elt F) VS0_0.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1)

/-- Case E stores nothing into scratch `arg14`: it holds what the point before left. -/
def sout0_E_1 (c : Dev nD) (i : grid0.Coords) (arg1 : Memref sig .tc .smem S1 .i32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S1x2x5632 .f32) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x2x5632 .f32) (harg12 : arg12.IsWhole) (arg13 : Memref sig .tc .vmem S44x264x128 .f32) (harg13 : arg13.IsWhole) (arg14 : Memref sig .tc .vmem S44x264x128 .f32) (harg14 : arg14.IsWhole) (arg15 : Memref sig .tc .vmem S256x2816 .bf16) (harg15 : arg15.IsWhole) (hc0 : ¬cond0_0 i) (hc1 : cond0_1 i) (hc2 : ¬cond0_2 i) (hc3 : cond0_3 i) (hc4 : ¬cond0_4 i)
    (x0 : Vec F S1 .i32) (x1 : Vec F S256x1024 .f32) (x2 : Vec F S256x1024 .f32) (x3 : Vec F S1x1024 .f32) (x4 : Vec F S1024x5632 .bf16) (x5 : Vec F S1x2x5632 .f32) (x6 : Vec F S3x5632 .f32) (x7 : Vec F S1x5632 .f32) (x8 : Vec F S2816x1024 .bf16) (x9 : Vec F S1x1024 .f32) (xs1 : Vec F S44x264x128 .f32) : Vec F S44x264x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S1x2x5632 .f32 × Vec F S44x264x128 .f32 × Vec F S44x264x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 65 = 0 then
      if h1 : (n + 1) % 2 = 0 then
        if h2 : ((n + 1) % 65 = 0 ∨ (n + 1) % 65 = 1 ∨ (n + 1) % 65 = 9 ∨ (n + 1) % 65 = 17 ∨ (n + 1) % 65 = 25 ∨ (n + 1) % 65 = 33 ∨ (n + 1) % 65 = 41 ∨ (n + 1) % 65 = 49 ∨ (n + 1) % 65 = 57) then
          if h3 : ((n + 1) % 65 = 8 ∨ (n + 1) % 65 = 16 ∨ (n + 1) % 65 = 24 ∨ (n + 1) % 65 = 32 ∨ (n + 1) % 65 = 40 ∨ (n + 1) % 65 = 48 ∨ (n + 1) % 65 = 56 ∨ (n + 1) % 65 = 64) then
            False.elim (by have hN : n + 1 < 65 := lt_of_lt_of_eq hn (show cfg0.N = 65 from N_0); omega)
          else
            if h4 : (n + 1) % 2 = 1 then
              False.elim (by have hN : n + 1 < 65 := lt_of_lt_of_eq hn (show cfg0.N = 65 from N_0); omega)
            else
              (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
        else
          False.elim (by have hN : n + 1 < 65 := lt_of_lt_of_eq hn (show cfg0.N = 65 from N_0); omega)
      else
        False.elim (by have hN : n + 1 < 65 := lt_of_lt_of_eq hn (show cfg0.N = 65 from N_0); omega)
    else
      if h1 : (n + 1) % 2 = 0 then
        if h2 : ((n + 1) % 65 = 0 ∨ (n + 1) % 65 = 1 ∨ (n + 1) % 65 = 9 ∨ (n + 1) % 65 = 17 ∨ (n + 1) % 65 = 25 ∨ (n + 1) % 65 = 33 ∨ (n + 1) % 65 = 41 ∨ (n + 1) % 65 = 49 ∨ (n + 1) % 65 = 57) then
          False.elim (by have hN : n + 1 < 65 := lt_of_lt_of_eq hn (show cfg0.N = 65 from N_0); omega)
        else
          if h3 : ((n + 1) % 65 = 8 ∨ (n + 1) % 65 = 16 ∨ (n + 1) % 65 = 24 ∨ (n + 1) % 65 = 32 ∨ (n + 1) % 65 = 40 ∨ (n + 1) % 65 = 48 ∨ (n + 1) % 65 = 56 ∨ (n + 1) % 65 = 64) then
            if h4 : (n + 1) % 2 = 1 then
              False.elim (by have hN : n + 1 < 65 := lt_of_lt_of_eq hn (show cfg0.N = 65 from N_0); omega)
            else
              (out0_E_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, out0_E_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2)
          else
            if h4 : (n + 1) % 2 = 1 then
              False.elim (by have hN : n + 1 < 65 := lt_of_lt_of_eq hn (show cfg0.N = 65 from N_0); omega)
            else
              (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2)
      else
        if h4 : (n + 1) % 2 = 1 then
          if h5 : ((n + 1) % 65 = 0 ∨ (n + 1) % 65 = 1 ∨ (n + 1) % 65 = 9 ∨ (n + 1) % 65 = 17 ∨ (n + 1) % 65 = 25 ∨ (n + 1) % 65 = 33 ∨ (n + 1) % 65 = 41 ∨ (n + 1) % 65 = 49 ∨ (n + 1) % 65 = 57) then
            if h6 : ((n + 1) % 65 = 8 ∨ (n + 1) % 65 = 16 ∨ (n + 1) % 65 = 24 ∨ (n + 1) % 65 = 32 ∨ (n + 1) % 65 = 40 ∨ (n + 1) % 65 = 48 ∨ (n + 1) % 65 = 56 ∨ (n + 1) % 65 = 64) then
              False.elim (by have hN : n + 1 < 65 := lt_of_lt_of_eq hn (show cfg0.N = 65 from N_0); omega)
            else
              (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1)
          else
            if h6 : ((n + 1) % 65 = 8 ∨ (n + 1) % 65 = 16 ∨ (n + 1) % 65 = 24 ∨ (n + 1) % 65 = 32 ∨ (n + 1) % 65 = 40 ∨ (n + 1) % 65 = 48 ∨ (n + 1) % 65 = 56 ∨ (n + 1) % 65 = 64) then
              False.elim (by have hN : n + 1 < 65 := lt_of_lt_of_eq hn (show cfg0.N = 65 from N_0); omega)
            else
              (out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1)
        else
          False.elim (by have hN : n + 1 < 65 := lt_of_lt_of_eq hn (show cfg0.N = 65 from N_0); omega)

/-- `outsAt0` at a point of case A: that case's contents. -/
theorem outsAt0_A (c : Dev nD) (t : Fin cfg0.N) (h0 : t.val % 65 = 0) (h1 : t.val % 2 = 0) (h2 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)) (h3 : ¬(t.val % 65 = 8 ∨ t.val % 65 = 16 ∨ t.val % 65 = 24 ∨ t.val % 65 = 32 ∨ t.val % 65 = 40 ∨ t.val % 65 = 48 ∨ t.val % 65 = 56 ∨ t.val % 65 = 64)) (h4 : ¬t.val % 2 = 1) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_pos h1).trans ((dif_pos h2).trans ((dif_neg h3).trans ((dif_neg h4).trans rfl))))

/-- `outsAt0` at a point of case B: that case's contents, over what the point before left. -/
theorem outsAt0_B (c : Dev nD) (t : Fin cfg0.N) (h0 : ¬t.val % 65 = 0) (h1 : ¬t.val % 2 = 0) (h4 : t.val % 2 = 1) (h5 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)) (h6 : ¬(t.val % 65 = 8 ∨ t.val % 65 = 16 ∨ t.val % 65 = 24 ∨ t.val % 65 = 32 ∨ t.val % 65 = 40 ∨ t.val % 65 = 48 ∨ t.val % 65 = 56 ∨ t.val % 65 = 64)) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_neg h1).trans ((dif_pos h4).trans ((dif_pos h5).trans ((dif_neg h6).trans rfl))))

/-- `outsAt0` at a point of case C: that case's contents, over what the point before left. -/
theorem outsAt0_C (c : Dev nD) (t : Fin cfg0.N) (h0 : ¬t.val % 65 = 0) (h1 : t.val % 2 = 0) (h2 : ¬(t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)) (h3 : ¬(t.val % 65 = 8 ∨ t.val % 65 = 16 ∨ t.val % 65 = 24 ∨ t.val % 65 = 32 ∨ t.val % 65 = 40 ∨ t.val % 65 = 48 ∨ t.val % 65 = 56 ∨ t.val % 65 = 64)) (h4 : ¬t.val % 2 = 1) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

/-- `outsAt0` at a point of case D: that case's contents, over what the point before left. -/
theorem outsAt0_D (c : Dev nD) (t : Fin cfg0.N) (h0 : ¬t.val % 65 = 0) (h1 : ¬t.val % 2 = 0) (h4 : t.val % 2 = 1) (h5 : ¬(t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)) (h6 : ¬(t.val % 65 = 8 ∨ t.val % 65 = 16 ∨ t.val % 65 = 24 ∨ t.val % 65 = 32 ∨ t.val % 65 = 40 ∨ t.val % 65 = 48 ∨ t.val % 65 = 56 ∨ t.val % 65 = 64)) :
    outsAt0 m c t.val t.isLt = (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_neg h1).trans ((dif_pos h4).trans ((dif_neg h5).trans ((dif_neg h6).trans rfl))))

/-- `outsAt0` at a point of case E: that case's contents, over what the point before left. -/
theorem outsAt0_E (c : Dev nD) (t : Fin cfg0.N) (h0 : ¬t.val % 65 = 0) (h1 : t.val % 2 = 0) (h2 : ¬(t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)) (h3 : (t.val % 65 = 8 ∨ t.val % 65 = 16 ∨ t.val % 65 = 24 ∨ t.val % 65 = 32 ∨ t.val % 65 = 40 ∨ t.val % 65 = 48 ∨ t.val % 65 = 56 ∨ t.val % 65 = 64)) (h4 : ¬t.val % 2 = 1) :
    outsAt0 m c t.val t.isLt = (out0_E_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, out0_E_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.KernelIdeal.Body

end
-- ==== Proof.Obligation.lean ====
/- The body at a generic point, the run, and the frame. -/
module

public import proofs.«01_k».proof.Proof.Outs

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : t.val % 2 = 0
    · by_cases h2 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)
      · by_cases h3 : (t.val % 65 = 8 ∨ t.val % 65 = 16 ∨ t.val % 65 = 24 ∨ t.val % 65 = 32 ∨ t.val % 65 = 40 ∨ t.val % 65 = 48 ∨ t.val % 65 = 56 ∨ t.val % 65 = 64)
        · exfalso; omega
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) ((hcond0_2 t).mpr h2) (fun h => h3 ((hcond0_3 t).mp h)) (fun h => h4 ((hcond0_4 t).mp h))], after0_10]
            rw [Dat.leavesExact_idle (dats m 0 c) 11 t (idleAt0_11_A t ((hcond0_0 t).mpr h0) ((hcond0_1 t).mpr h1) ((hcond0_2 t).mpr h2) (fun h => h3 ((hcond0_3 t).mp h)) (fun h => h4 ((hcond0_4 t).mp h))) (noFlush0_11_A t ((hcond0_0 t).mpr h0) ((hcond0_1 t).mpr h1) ((hcond0_2 t).mpr h2) (fun h => h3 ((hcond0_3 t).mp h)) (fun h => h4 ((hcond0_4 t).mp h)))]
            by_cases hz : t.val = 0
            · rw [PhiS_castSucc m c t, PhiS_zero m c _ _ hz, PhiA0_eq]
              rw [outsAt0_A m c t h0 h1 h2 h3 h4]
              unfold out0_A_10 sout0_A_0 sout0_A_1; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_A c (grid0.coords t) _ _ _ _ _ _ _ _ _ _ _ _ _ _ _ _ _ _ _ _ _ _ _ _ _ _ _ _ _ _ ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexact H11
              isplitl [HS0]; · iexact HS0
              isplitl [HS1]; · iexact HS1
              isplitl [HS2]; · iexact HS2
              iintro ⟨H0, H1, H2, H3, H4, H5, H6, H7, H8, H9, ⟨%e10, H10⟩, H11, ⟨%es0, HS0⟩, ⟨%es1, HS1⟩, ⟨%fT2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
                  iexists _; unfold owns; iexists _; isplitr
                  swap; · iexact HS2
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _)
              iexists _; iexact H11
            · exfalso; have hN : t.val < 65 := lt_of_lt_of_eq t.isLt (show cfg0.N = 65 from N_0); omega
      · exfalso; omega
    · exfalso; omega
  · by_cases h1 : t.val % 2 = 0
    · by_cases h2 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)
      · exfalso; omega
      · by_cases h3 : (t.val % 65 = 8 ∨ t.val % 65 = 16 ∨ t.val % 65 = 24 ∨ t.val % 65 = 32 ∨ t.val % 65 = 40 ∨ t.val % 65 = 48 ∨ t.val % 65 = 56 ∨ t.val % 65 = 64)
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10_E t (fun h => h0 ((hcond0_0 t).mp h)) ((hcond0_1 t).mpr h1) (fun h => h2 ((hcond0_2 t).mp h)) ((hcond0_3 t).mpr h3) (fun h => h4 ((hcond0_4 t).mp h))], after0_10]
            rw [show (dats m 0 c).leavesExact 11 t = owns (c : Thread nD τ) (ms0_11 t) fullShare ((dats m 0 c).after 11 t) from by
      unfold Dat.leavesExact; rw [liveAt0_11_E t (fun h => h0 ((hcond0_0 t).mp h)) ((hcond0_1 t).mpr h1) (fun h => h2 ((hcond0_2 t).mp h)) ((hcond0_3 t).mpr h3) (fun h => h4 ((hcond0_4 t).mp h))], after0_11]
            by_cases hz : t.val = 0
            · exfalso; have hN : t.val < 65 := lt_of_lt_of_eq t.isLt (show cfg0.N = 65 from N_0); omega
            · rw [PhiS_castSucc m c t, PhiS_pos m c _ _ hz]
              rw [outsAt0_E m c t h0 h1 h2 h3 h4]
              unfold out0_E_10 out0_E_11 sout0_E_0 sout0_E_1; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_E c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [HS0]; · iexists _; iexact HS0
              isplitl [HS1]; · iexact HS1
              isplitl [HS2]; · iexact HS2
              iintro ⟨H0, H1, H2, H3, H4, H5, H6, H7, H8, H9, ⟨%e10, H10⟩, ⟨%e11, H11⟩, ⟨%es0, HS0⟩, HS1, ⟨%fT2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_E_0 c _ _ _ _ _ _ _ _ _ _ _ _ _ _ _ _ _ _ _ _ _ _ _ _ _ _ _ _ _ _ _ _ _ _ _ _ _ _ _ _ _ _ _ _ _ _ _)
                  isplitl [HS1]
                  · iexact HS1
                  iexists _; unfold owns; iexists _; isplitr
                  swap; · iexact HS2
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact View.read_writes_of_cover _ _ _ _ _ (cover0_E_10 c _ _ _ _ _ _ _ _ _ _ _ _ _ _ _ _ _ _ _ _ _ _ _ _ _ _ _ _ _ _ _ _ _ _ _ _ _ _ _ _ _ _ _ _ _ _ _)
              unfold owns; iexists _; isplitr
              swap; · iexact H11
              ipureintro; exact View.read_writes_of_cover _ _ _ _ _ (cover0_E_11 c _ _ _ _ _ _ _ _ _ _ _ _ _ _ _ _ _ _ _ _ _ _ _ _ _ _ _ _ _ _ _ _ _ _ _ _ _ _ _ _ _ _ _ _ _ _ _)
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1) (fun h => h2 ((hcond0_2 t).mp h)) (fun h => h3 ((hcond0_3 t).mp h)) (fun h => h4 ((hcond0_4 t).mp h))], after0_10]
            rw [Dat.leavesExact_idle (dats m 0 c) 11 t (idleAt0_11_C t (fun h => h0 ((hcond0_0 t).mp h)) ((hcond0_1 t).mpr h1) (fun h => h2 ((hcond0_2 t).mp h)) (fun h => h3 ((hcond0_3 t).mp h)) (fun h => h4 ((hcond0_4 t).mp h))) (noFlush0_11_C t (fun h => h0 ((hcond0_0 t).mp h)) ((hcond0_1 t).mpr h1) (fun h => h2 ((hcond0_2 t).mp h)) (fun h => h3 ((hcond0_3 t).mp h)) (fun h => h4 ((hcond0_4 t).mp h)))]
            by_cases hz : t.val = 0
            · exfalso; have hN : t.val < 65 := lt_of_lt_of_eq t.isLt (show cfg0.N = 65 from N_0); omega
            · rw [PhiS_castSucc m c t, PhiS_pos m c _ _ hz]
              rw [outsAt0_C m c t h0 h1 h2 h3 h4]
              unfold out0_C_10 sout0_C_0 sout0_C_1; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexact H11
              isplitl [HS0]; · iexists _; iexact HS0
              isplitl [HS1]; · iexact HS1
              isplitl [HS2]; · iexact HS2
              iintro ⟨H0, H1, H2, H3, H4, H5, H6, H7, H8, H9, ⟨%e10, H10⟩, H11, ⟨%es0, HS0⟩, HS1, ⟨%fT2, HS2⟩⟩
              isplitl [HS0 HS1 HS2 Hg]
              · isplitl [HS0 HS1 HS2]
                · isplitl [HS0]
                  · unfold owns; iexists _; isplitr
                    swap; · iexact HS0
                    ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _)
                  isplitl [HS1]
                  · iexact HS1
                  iexists _; unfold owns; iexists _; isplitr
                  swap; · iexact HS2
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _)
              iexists _; iexact H11
    · by_cases h4 : t.val % 2 = 1
      · by_cases h5 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)
        · by_cases h6 : (t.val % 65 = 8 ∨ t.val % 65 = 16 ∨ t.val % 65 = 24 ∨ t.val % 65 = 32 ∨ t.val % 65 = 40 ∨ t.val % 65 = 48 ∨ t.val % 65 = 56 ∨ t.val % 65 = 64)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10_B t (fun h => h0 ((hcond0_0 t).mp h)) (fun h => h1 ((hcond0_1 t).mp h)) ((hcond0_4 t).mpr h4) ((hcond0_5 t).mpr h5) (fun h => h6 ((hcond0_6 t).mp h))], after0_10]
            rw [Dat.leavesExact_idle (dats m 0 c) 11 t (idleAt0_11_B t (fun h => h0 ((hcond0_0 t).mp h)) (fun h => h1 ((hcond0_1 t).mp h)) ((hcond0_4 t).mpr h4) ((hcond0_5 t).mpr h5) (fun h => h6 ((hcond0_6 t).mp h))) (noFlush0_11_B t (fun h => h0 ((hcond0_0 t).mp h)) (fun h => h1 ((hcond0_1 t).mp h)) ((hcond0_4 t).mpr h4) ((hcond0_5 t).mpr h5) (fun h => h6 ((hcond0_6 t).mp h)))]
            by_cases hz : t.val = 0
            · exfalso; have hN : t.val < 65 := lt_of_lt_of_eq t.isLt (show cfg0.N = 65 from N_0); omega
            · rw [PhiS_castSucc m c t, PhiS_pos m c _ _ hz]
              rw [outsAt0_B m c t h0 h1 h4 h5 h6]
              unfold out0_B_10 sout0_B_0 sout0_B_1; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_4 t).mpr h4) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexact H11
              isplitl [HS0]; · iexact HS0
              isplitl [HS1]; · iexists _; iexact HS1
              isplitl [HS2]; · iexact HS2
              iintro ⟨H0, H1, H2, H3, H4, H5, H6, H7, H8, H9, ⟨%e10, H10⟩, H11, HS0, ⟨%es1, HS1⟩, ⟨%fT2, HS2⟩⟩
              isplitl [HS0 HS1 HS2 Hg]
              · isplitl [HS0 HS1 HS2]
                · isplitl [HS0]
                  · unfold owns; iexists _; isplitr
                    swap; · iexact HS0
                    ipureintro; rfl
                  isplitl [HS1]
                  · unfold owns; iexists _; isplitr
                    swap; · iexact HS1
                    ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _)
                  iexists _; unfold owns; iexists _; isplitr
                  swap; · iexact HS2
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _)
              iexists _; iexact H11
        · by_cases h6 : (t.val % 65 = 8 ∨ t.val % 65 = 16 ∨ t.val % 65 = 24 ∨ t.val % 65 = 32 ∨ t.val % 65 = 40 ∨ t.val % 65 = 48 ∨ t.val % 65 = 56 ∨ t.val % 65 = 64)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) ((hcond0_4 t).mpr h4) (fun h => h5 ((hcond0_5 t).mp h)) (fun h => h6 ((hcond0_6 t).mp h))], after0_10]
            rw [Dat.leavesExact_idle (dats m 0 c) 11 t (idleAt0_11_D t (fun h => h0 ((hcond0_0 t).mp h)) (fun h => h1 ((hcond0_1 t).mp h)) ((hcond0_4 t).mpr h4) (fun h => h5 ((hcond0_5 t).mp h)) (fun h => h6 ((hcond0_6 t).mp h))) (noFlush0_11_D t (fun h => h0 ((hcond0_0 t).mp h)) (fun h => h1 ((hcond0_1 t).mp h)) ((hcond0_4 t).mpr h4) (fun h => h5 ((hcond0_5 t).mp h)) (fun h => h6 ((hcond0_6 t).mp h)))]
            by_cases hz : t.val = 0
            · exfalso; have hN : t.val < 65 := lt_of_lt_of_eq t.isLt (show cfg0.N = 65 from N_0); omega
            · rw [PhiS_castSucc m c t, PhiS_pos m c _ _ hz]
              rw [outsAt0_D m c t h0 h1 h4 h5 h6]
              unfold out0_D_10 sout0_D_0 sout0_D_1; (try dsimp only)
              iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_D c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexact H11
              isplitl [HS0]; · iexact HS0
              isplitl [HS1]; · iexists _; iexact HS1
              isplitl [HS2]; · iexact HS2
              iintro ⟨H0, H1, H2, H3, H4, H5, H6, H7, H8, H9, ⟨%e10, H10⟩, H11, HS0, ⟨%es1, HS1⟩, ⟨%fT2, HS2⟩⟩
              isplitl [HS0 HS1 HS2 Hg]
              · isplitl [HS0 HS1 HS2]
                · isplitl [HS0]
                  · iexact HS0
                  isplitl [HS1]
                  · unfold owns; iexists _; isplitr
                    swap; · iexact HS1
                    ipureintro; exact View.read_writes_of_cover _ _ _ _ _ (scover0_D_1 c _ _ _ _ _ _ _ _ _ _ _ _ _ _ _ _ _ _ _ _ _ _ _ _ _ _ _ _ _ _ _ _ _ _ _ _ _ _ _ _ _ _ _ _ _ _ _)
                  iexists _; unfold owns; iexists _; isplitr
                  swap; · iexact HS2
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _)
              iexists _; iexact H11
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Body

end
-- ==== Proof.Same.lean ====
/- The kernel and its idealization are printed in the same words: over the machine's own floats the one's frame is the
   other's. -/
module

public import proofs.«01_k».proof.Defs
public import proofs.«01_k».proof.Proof.Gen.Kernel
public import proofs.«01_k».proof.Proof.Gen.KernelIdeal
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic Idealize.SL.Sem

/-- The idealization run over the machine's floats ends with its arguments and counters as they were. -/
def QuietBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem quiet_same : QuietBits = Cert.quiescent_Kernel := by
  sl_kernel_rfl

end Cert.KernelIdeal.Body

end
-- ==== Proof.Form.lean ====
/- The value forms of the feed-forward kernel's stores. Each store of a step is one of a few shapes of arithmetic at
   changing offsets: a normalised block times a block of the up weights (44 of them), a block of the activation (88),
   a row block of the tail (44) and one finished block of rows. The forms here take the offsets as numbers, and a
   step's list of stores is the list of a form at `0, 1, 2, …`. -/
module

public import proofs.«01_k».proof.Proof.Gen.KernelIdeal
public import Idealize.ShloMosaic.Lib.Pipeline.Value

@[expose] public section

noncomputable section

namespace Cert.KernelIdeal.Body

open Cert.KernelIdeal.Gen
open Idealize.ShloMosaic Idealize.ShloMosaic.TcCoe

variable {F : FTy → Type} [FloatOps F]

/-- The list `f (n-1), …, f 1, f 0`: the order a run's stores are found in, the last one first. -/
def pieces {α : Type} (f : ℕ → α) : ℕ → List α
  | 0 => []
  | n + 1 => f n :: pieces f n

theorem mem_pieces {α : Type} (f : ℕ → α) (p : α) : ∀ n, p ∈ pieces f n ↔ ∃ k, k < n ∧ f k = p
  | 0 => by simp [pieces]
  | n + 1 => by
    rw [pieces, List.mem_cons, mem_pieces f p n]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.mp hk with h | rfl
      · exact Or.inr ⟨k, h, rfl⟩
      · exact Or.inl rfl

/-! ## Offsets within their arrays -/

theorem fun_three {P : Fin 3 → Prop} (h0 : P 0) (h1 : P 1) (h2 : P 2) (a : Fin 3) : P a := by
  match a with
  | ⟨0, _⟩ => exact h0
  | ⟨1, _⟩ => exact h1
  | ⟨2, _⟩ => exact h2

theorem inb_up (i : ℕ) : ∀ a, (![0, 256 * (i % 22)] : Fin 2 → ℕ) a + S1024x256.size a ≤ S1024x5632.size a :=
  Fin.forall_fin_two.mpr ⟨by show 0 + 1024 ≤ 1024; omega, by show 256 * (i % 22) + 256 ≤ 5632; omega⟩
theorem inb_stage (j : ℕ) : ∀ a, (![j % 44, 8, 0] : Fin 3 → ℕ) a + S1x256x128.size a ≤ S44x264x128.size a :=
  fun_three (by show j % 44 + 1 ≤ 44; omega) (by show 8 + 256 ≤ 264; omega) (by show 0 + 128 ≤ 128; omega)
theorem inb_ub (j r : ℕ) : ∀ a, (![j % 44, r % 201, 0] : Fin 3 → ℕ) a + S1x64x128.size a ≤ S44x264x128.size a :=
  fun_three (by show j % 44 + 1 ≤ 44; omega) (by show r % 201 + 64 ≤ 264; omega) (by show 0 + 128 ≤ 128; omega)
theorem inb_tail (j : ℕ) : ∀ a, (![j % 44, 6, 0] : Fin 3 → ℕ) a + S1x2x128.size a ≤ S44x264x128.size a :=
  fun_three (by show j % 44 + 1 ≤ 44; omega) (by show 6 + 2 ≤ 264; omega) (by show 0 + 128 ≤ 128; omega)
theorem inb_rows (j : ℕ) : ∀ a, (![j % 44, 262, 0] : Fin 3 → ℕ) a + S1x2x128.size a ≤ S44x264x128.size a :=
  fun_three (by show j % 44 + 1 ≤ 44; omega) (by show 262 + 2 ≤ 264; omega) (by show 0 + 128 ≤ 128; omega)
theorem inb_last (j : ℕ) : ∀ a, (![0, 0, 128 * (j % 44)] : Fin 3 → ℕ) a + S1x2x128.size a ≤ S1x2x5632.size a :=
  fun_three (by show 0 + 1 ≤ 1; omega) (by show 0 + 2 ≤ 2; omega) (by show 128 * (j % 44) + 128 ≤ 5632; omega)
theorem inb_tap (k j : ℕ) : ∀ a, (![k % 3, 128 * (j % 44)] : Fin 2 → ℕ) a + S1x128.size a ≤ S3x5632.size a :=
  Fin.forall_fin_two.mpr ⟨by show k % 3 + 1 ≤ 3; omega, by show 128 * (j % 44) + 128 ≤ 5632; omega⟩
theorem inb_bias (j : ℕ) : ∀ a, (![0, 128 * (j % 44)] : Fin 2 → ℕ) a + S1x128.size a ≤ S1x5632.size a :=
  Fin.forall_fin_two.mpr ⟨by show 0 + 1 ≤ 1; omega, by show 128 * (j % 44) + 128 ≤ 5632; omega⟩
theorem inb_act (k : ℕ) : ∀ a, (![64 * (k / 22 % 4), 128 * (k % 22)] : Fin 2 → ℕ) a + S64x128.size a ≤ S256x2816.size a :=
  Fin.forall_fin_two.mpr ⟨by show 64 * (k / 22 % 4) + 64 ≤ 256; omega, by show 128 * (k % 22) + 128 ≤ 2816; omega⟩

/-! ## Rows: the normalisation, the up projection, the finished rows -/

/-- The sum of each of 256 rows. -/
def rowSum (x : FVec F S256x1024 .f32) : FVec F S256 .f32 :=
  multiReduction .add [1] S256 x 0x00000000#32 reduces_S256x1024_S256 (.inl rfl) rfl
/-- RMSNorm of 256 rows with a gain. -/
def rmsV (x : FVec F S256x1024 .f32) (g : FVec F S1x1024 .f32) : FVec F S256x1024 .f32 :=
  mulf (mulf x (broadcastTo S256x1024 (rsqrt (addf (divf
    (shapeCast S256x1 (rowSum (mulf x x)) shapeCasts_S256_S256x1)
    (broadcast S256x1 (Scalar.ofBits .f32 0x44800000#32))) (broadcast S256x1 (Scalar.ofBits .f32 0x3727C5AC#32)))) broadcasts_S256x1_S256x1024))
    (broadcastTo S256x1024 (shapeCast S1x1024 g shapeCasts_S1x1024_S1x1024) broadcasts_S1x1024_S256x1024)

/-- The product of the normalised rows with 256 columns of the up weights. -/
def upV (x : FVec F S256x1024 .f32) (g : FVec F S1x1024 .f32) (w : FVec F S1024x256 .bf16) : FVec F S256x256 .f32 :=
  matmul dot_S256x1024_S1024x256_S256x256_1_0_0_1_n_n none (truncf .bf16 (rmsV x g) bitsLt_bf16_f32)
    (shapeCast S1024x256 w shapeCasts_S1024x256_S1024x256) (constant S256x256 .f32 0x00000000#32)

/-- The first or the second 128 columns of that product (`j` even or odd), as one lane block of the buffer. -/
def stageV (x : FVec F S256x1024 .f32) (g : FVec F S1x1024 .f32) (w : FVec F S1024x256 .bf16) (j : ℕ) : FVec F S1x256x128 .f32 :=
  match j % 2 with
  | 0 => shapeCast S1x256x128 (extractStridedSlice S256x128 ![0, 0] (upV x g w) slices_S256x256_o0_0_S256x128) shapeCasts_S256x128_S1x256x128
  | _ + 1 => shapeCast S1x256x128 (extractStridedSlice S256x128 ![0, 128] (upV x g w) slices_S256x256_o0_128_S256x128) shapeCasts_S256x128_S1x256x128

/-- The finished rows: the residual rows plus the activation times the down weights, normalised. -/
def yV (h : FVec F S256x1024 .f32) (a : FVec F S256x2816 .bf16) (w : FVec F S2816x1024 .bf16) (g : FVec F S1x1024 .f32) :
    FVec F S256x1024 .f32 :=
  rmsV (addf h (matmul dot_S256x2816_S2816x1024_S256x1024_1_0_0_1_n_n none a
    (shapeCast S2816x1024 w shapeCasts_S2816x1024_S2816x1024) (constant S256x1024 .f32 0x00000000#32))) g

/-! ## The activation: the convolution of two lane blocks, the gate, the chain of blocks -/

def biasV (b : FVec F S1x128 .f32) : FVec F S64x128 .f32 :=
  broadcastTo S64x128 (shapeCast S1x128 (shapeCast S1x128 b shapeCasts_S1x128_S1x128) shapeCasts_S1x128_S1x128) broadcasts_S1x128_S64x128
def tapV (w : FVec F S1x128 .f32) (u : FVec F S1x64x128 .f32) : FVec F S64x128 .f32 :=
  mulf (broadcastTo S64x128 (shapeCast S1x128 w shapeCasts_S1x128_S1x128) broadcasts_S1x128_S64x128) (shapeCast S64x128 u shapeCasts_S1x64x128_S64x128)
/-- Three taps added to a start. -/
def convV (init : FVec F S64x128 .f32) (w : ℕ → FVec F S1x128 .f32) (u : ℕ → FVec F S1x64x128 .f32) : FVec F S64x128 .f32 :=
  addf (addf (addf init (tapV (w 0) (u 0))) (tapV (w 1) (u 1))) (tapV (w 2) (u 2))
def siluV (g : FVec F S64x128 .f32) : FVec F S64x128 .f32 :=
  mulf g (divf (broadcast S64x128 (Scalar.ofBits .f32 0x3F800000#32)) (addf (broadcast S64x128 (Scalar.ofBits .f32 0x3F800000#32))
    (exp (subf (broadcast S64x128 (Scalar.ofBits .f32 0x00000000#32)) g))))
/-- The block before where the flag is nonzero, else the start. -/
def pickV (fl : Elt F .i32) (prev init : FVec F S64x128 .f32) : FVec F S64x128 .f32 :=
  select (cmpi .ne (broadcast S64x128 fl) (broadcast S64x128 0#32)) prev init
/-- Block `k` of the activation (rows `64 (k / 22)`, columns `128 (k mod 22)`), from the start of its gate. -/
def gateV (wt : ℕ → ℕ → FVec F S1x128 .f32) (bs : ℕ → FVec F S1x128 .f32) (ub : ℕ → ℕ → ℕ → FVec F S1x64x128 .f32) (k : ℕ)
    (init : FVec F S64x128 .f32) : FVec F S64x128 .f32 :=
  mulf (siluV (convV init (fun q => wt q (k % 22)) (fun q => ub q (k / 22) (k % 22))))
    (convV (biasV (bs (k % 22 + 22))) (fun q => wt q (k % 22 + 22)) (fun q => ub q (k / 22) (k % 22 + 22)))
def actV (fl : Elt F .i32) (wt : ℕ → ℕ → FVec F S1x128 .f32) (bs : ℕ → FVec F S1x128 .f32) (ub : ℕ → ℕ → ℕ → FVec F S1x64x128 .f32) :
    ℕ → FVec F S64x128 .f32
  | 0 => gateV wt bs ub 0 (biasV (bs 0))
  | k + 1 => gateV wt bs ub (k + 1) (pickV fl (actV fl wt bs ub k) (biasV (bs ((k + 1) % 22))))

/-! ## Loads and stores at numbered offsets -/

abbrev Ubuf := Memref sig .tc .vmem S44x264x128 .f32

/-- 64 rows of a lane block of the buffer. -/
def ubL (M : Ubuf) (f : M.view.ty.Contents (Elt F)) (j r : ℕ) : FVec F S1x64x128 .f32 :=
  M.view.readAt (Elt F) (Rect.unit (s := S44x264x128) ![j % 44, r % 201, 0] S1x64x128.size (inb_ub j r)).toLoadRect f
/-- The load of tap `q` for the rows `64 rb`, from contents `f`; at the first rows taps 0 and 1 read `f'`. -/
def ubAt (M : Ubuf) (f f' : M.view.ty.Contents (Elt F)) (q rb j : ℕ) : FVec F S1x64x128 .f32 :=
  match rb, q with
  | 0, 0 => ubL M f' j 6
  | 0, 1 => ubL M f' j 7
  | rb, q => ubL M f j (64 * rb + 6 + q)
def tapL (M : Memref sig .tc .vmem S3x5632 .f32) (f : M.view.ty.Contents (Elt F)) (q j : ℕ) : FVec F S1x128 .f32 :=
  M.view.readAt (Elt F) (Rect.unit (s := S3x5632) ![q % 3, 128 * (j % 44)] S1x128.size (inb_tap q j)).toLoadRect f
def biasL (M : Memref sig .tc .vmem S1x5632 .f32) (f : M.view.ty.Contents (Elt F)) (j : ℕ) : FVec F S1x128 .f32 :=
  M.view.readAt (Elt F) (Rect.unit (s := S1x5632) ![0, 128 * (j % 44)] S1x128.size (inb_bias j)).toLoadRect f
def upL (M : Memref sig .tc .vmem S1024x5632 .bf16) (f : M.view.ty.Contents (Elt F)) (i : ℕ) : FVec F S1024x256 .bf16 :=
  M.view.readAt (Elt F) (Rect.unit (s := S1024x5632) ![0, 256 * (i % 22)] S1024x256.size (inb_up i)).toLoadRect f
def lastL (M : Memref sig .tc .vmem S1x2x5632 .f32) (f : M.view.ty.Contents (Elt F)) (j : ℕ) : FVec F S1x2x128 .f32 :=
  M.view.readAt (Elt F) (Rect.unit (s := S1x2x5632) ![0, 0, 128 * (j % 44)] S1x2x128.size (inb_last j)).toLoadRect f
def rowsL (M : Ubuf) (f : M.view.ty.Contents (Elt F)) (j : ℕ) : FVec F S1x2x128 .f32 :=
  M.view.readAt (Elt F) (Rect.unit (s := S44x264x128) ![j % 44, 262, 0] S1x2x128.size (inb_rows j)).toLoadRect f
def fullL (M : Memref sig .tc .vmem S256x1024 .f32) (f : M.view.ty.Contents (Elt F)) : FVec F S256x1024 .f32 :=
  M.view.readAt (Elt F) (Rect.unit (s := S256x1024) ![0, 0] S256x1024.size inb_S256x1024_S256x1024_0_0).toLoadRect f
def gainL (M : Memref sig .tc .vmem S1x1024 .f32) (f : M.view.ty.Contents (Elt F)) : FVec F S1x1024 .f32 :=
  M.view.readAt (Elt F) (Rect.unit (s := S1x1024) ![0, 0] S1x1024.size inb_S1x1024_S1x1024_0_0).toLoadRect f
def downL (M : Memref sig .tc .vmem S2816x1024 .bf16) (f : M.view.ty.Contents (Elt F)) : FVec F S2816x1024 .bf16 :=
  M.view.readAt (Elt F) (Rect.unit (s := S2816x1024) ![0, 0] S2816x1024.size inb_S2816x1024_S2816x1024_0_0).toLoadRect f
def flagL (M : Memref sig .tc .smem S1 .i32) (f : M.view.ty.Contents (Elt F)) : Elt F .i32 :=
  M.view.readAt (Elt F) (Rect.unit (s := S1) ![0] S1.size inb_S1_S1_0).toLoadRect f (Shape.Idx.first (by rw [show (Rect.unit (s := S1) ![0] S1.size inb_S1_S1_0).shape.numel = 1 from numel1_S1]; exact Nat.one_pos))

def stageP (x : FVec F S256x1024 .f32) (g : FVec F S1x1024 .f32) (w : ℕ → FVec F S1024x256 .bf16) (j : ℕ) :
    View.Piece (Elt F) S44x264x128 .f32 :=
  ⟨Rect.unit (s := S44x264x128) ![j % 44, 8, 0] S1x256x128.size (inb_stage j), stageV x g (w (j / 2)) j⟩
/-- A whole buffer of zeros. -/
def zeroP : View.Piece (Elt F) S44x264x128 .f32 :=
  ⟨Rect.unit (s := S44x264x128) ![0, 0, 0] S44x264x128.size inb_S44x264x128_S44x264x128_0_0_0,
    shapeCast S44x264x128 (broadcast S44x264x128 (Scalar.ofBits .f32 0x00000000#32)) shapeCasts_S44x264x128_S44x264x128⟩
/-- Two rows of the carried tail, put at rows 6 and 7 of a lane block. -/
def tailP (w : ℕ → FVec F S1x2x128 .f32) (j : ℕ) : View.Piece (Elt F) S44x264x128 .f32 :=
  ⟨Rect.unit (s := S44x264x128) ![j % 44, 6, 0] S1x2x128.size (inb_tail j),
    shapeCast S1x2x128 (shapeCast S2x128 (w j) shapeCasts_S1x2x128_S2x128) shapeCasts_S2x128_S1x2x128⟩
/-- The last two rows of a lane block, put into the carried tail's columns. -/
def lastP (w : ℕ → FVec F S1x2x128 .f32) (j : ℕ) : View.Piece (Elt F) S1x2x5632 .f32 :=
  ⟨Rect.unit (s := S1x2x5632) ![0, 0, 128 * (j % 44)] S1x2x128.size (inb_last j),
    shapeCast S1x2x128 (shapeCast S2x128 (w j) shapeCasts_S1x2x128_S2x128) shapeCasts_S2x128_S1x2x128⟩
def actP (a : ℕ → FVec F S64x128 .f32) (k : ℕ) : View.Piece (Elt F) S256x2816 .bf16 :=
  ⟨Rect.unit (s := S256x2816) ![64 * (k / 22 % 4), 128 * (k % 22)] S64x128.size (inb_act k),
    shapeCast S64x128 (truncf .bf16 (a k) bitsLt_bf16_f32) shapeCasts_S64x128_S64x128⟩
/-- The last eight rows of every lane block of one buffer, put first in the other. -/
def carryP (M : Ubuf) (f : M.view.ty.Contents (Elt F)) : View.Piece (Elt F) S44x264x128 .f32 :=
  ⟨Rect.unit (s := S44x264x128) ![0, 0, 0] S44x8x128.size inb_S44x264x128_S44x8x128_0_0_0,
    shapeCast S44x8x128 (M.view.readAt (Elt F) (Rect.unit (s := S44x264x128) ![0, 256, 0] S44x8x128.size inb_S44x264x128_S44x8x128_0_256_0).toLoadRect f)
      shapeCasts_S44x8x128_S44x8x128⟩
def yP (y : FVec F S256x1024 .f32) : View.Piece (Elt F) S256x1024 .f32 :=
  ⟨Rect.unit (s := S256x1024) ![0, 0] S256x1024.size inb_S256x1024_S256x1024_0_0, y⟩

end Cert.KernelIdeal.Body

end
-- ==== Proof.Spec.lean ====
/- The feed-forward half of the layer as plain functions of row and column numbers, over the extended reals:
   RMSNorm, the up projection, the three-tap convolution down the rows of each sequence (its first two rows the
   carried tail), the SiLU gate, the down projection with the residual, and the closing RMSNorm. Both programs are
   read as these functions. -/
module

public import Idealize.ShloMosaic.Lib.ValueIdx
public import Idealize.ShloMosaic.PureOps.Ideal.Laws

@[expose] public section

noncomputable section

open scoped BigOperators

namespace Cert.Ffn

open Idealize.ShloMosaic Idealize.ShloMosaic.ValueIdx

/-- A vector read at a number, `0` past its end. -/
def at1 {a : ℕ} (x : (⟨1, ![a]⟩ : Shape).Idx → EReal) (i : ℕ) : EReal := if h : i < a then x (ix1 ⟨i, h⟩) else 0
/-- A matrix read at two numbers, `0` outside it. -/
def at2 {a b : ℕ} (x : (⟨2, ![a, b]⟩ : Shape).Idx → EReal) (i j : ℕ) : EReal :=
  if h : i < a ∧ j < b then x (ix2 ⟨i, h.1⟩ ⟨j, h.2⟩) else 0
/-- A rank-three array read at three numbers, `0` outside it. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem eq_at1 {a : ℕ} (x : (⟨1, ![a]⟩ : Shape).Idx → EReal) (i : (⟨1, ![a]⟩ : Shape).Idx) (p : ℕ)
    (h : (i 0).val = p) : x i = at1 x p := by
  subst h; have h0 : (i 0).val < a := (i 0).isLt
  unfold at1; rw [dif_pos h0]; exact congrArg x (eq_ix1 i)

theorem eq_at2 {a b : ℕ} (x : (⟨2, ![a, b]⟩ : Shape).Idx → EReal) (i : (⟨2, ![a, b]⟩ : Shape).Idx) (p q : ℕ)
    (h0 : (i 0).val = p) (h1 : (i 1).val = q) : x i = at2 x p q := by
  subst h0 h1; have h0 : (i 0).val < a := (i 0).isLt; have h1 : (i 1).val < b := (i 1).isLt
  unfold at2; rw [dif_pos ⟨h0, h1⟩]; exact congrArg x (eq_ix2 i)

theorem eq_at3 {a b c : ℕ} (x : (⟨3, ![a, b, c]⟩ : Shape).Idx → EReal) (i : (⟨3, ![a, b, c]⟩ : Shape).Idx) (p q r : ℕ)
    (h0 : (i 0).val = p) (h1 : (i 1).val = q) (h2 : (i 2).val = r) : x i = at3 x p q r := by
  subst h0 h1 h2; have h0 : (i 0).val < a := (i 0).isLt; have h1 : (i 1).val < b := (i 1).isLt
  have h2 : (i 2).val < c := (i 2).isLt
  unfold at3; rw [dif_pos ⟨h0, h1, h2⟩]; exact congrArg x (eq_ix3 i)

/-- One element of a row's RMSNorm: the row over the root of its mean square plus the literal, times the gain. -/
def rms (x g : ℕ → EReal) (k : ℕ) : EReal :=
  x k * Ideal.rsqrt (Ideal.div (0 + ∑ q : Fin 1024, x q.val * x q.val) (Ideal.ofBits .f32 0x44800000#32)
    + Ideal.ofBits .f32 0x3727C5AC#32) * g k

/-- `x · 1 / (1 + exp (-x))`. -/
def silu (x : EReal) : EReal :=
  x * Ideal.div (Ideal.ofBits .f32 0x3F800000#32) (Ideal.ofBits .f32 0x3F800000#32 + Ideal.exp (-x))

/-- The up projection of a normalised row, at column `k`. -/
def up (h : ℕ → EReal) (g : ℕ → EReal) (w : ℕ → ℕ → EReal) (k : ℕ) : EReal :=
  ∑ q : Fin 1024, rms h g q.val * w q.val k

/-- Sequence `b`'s rows with the carried tail before them: row `q` is the tail's for `q < 2`, then the projected rows. -/
def full (h : ℕ → ℕ → EReal) (t : ℕ → ℕ → EReal) (g : ℕ → EReal) (w : ℕ → ℕ → EReal) (b q k : ℕ) : EReal :=
  if q < 2 then t q k else up (h (2048 * b + (q - 2))) g w k

/-- The three-tap convolution of three consecutive rows at column `k`. -/
def conv (cw : ℕ → ℕ → EReal) (cb : ℕ → EReal) (f : ℕ → ℕ → EReal) (q k : ℕ) : EReal :=
  f q k * cw 0 k + f (q + 1) k * cw 1 k + f (q + 2) k * cw 2 k + cb k

/-- The gated activation at column `k` of the first half. -/
def act (cw : ℕ → ℕ → EReal) (cb : ℕ → EReal) (f : ℕ → ℕ → EReal) (q k : ℕ) : EReal :=
  silu (conv cw cb f q k) * conv cw cb f q (k + 2816)

/-- The residual plus the down projection of an activation row. -/
def down (h : ℕ → EReal) (a : ℕ → EReal) (wd : ℕ → ℕ → EReal) (k : ℕ) : EReal :=
  h k + ∑ q : Fin 2816, a q.val * wd q.val k

/-- The layer's result at row `r`, column `k`. -/
def out (h : ℕ → ℕ → EReal) (t : ℕ → ℕ → EReal) (g : ℕ → EReal) (w cw : ℕ → ℕ → EReal) (cb : ℕ → EReal)
    (wd : ℕ → ℕ → EReal) (gf : ℕ → EReal) (r k : ℕ) : EReal :=
  rms (down (h r) (act cw cb (full h t g w (r / 2048)) (r % 2048)) wd) gf k

end Cert.Ffn

end
-- ==== Proof.Payload.lean ====
/- The forms of `Form`, read over the extended reals as the functions of `Spec`. -/
module

public import proofs.«01_k».proof.Proof.Form
public import proofs.«01_k».proof.Proof.Spec

@[expose] public section

noncomputable section

open scoped BigOperators

namespace Cert.KernelIdeal.Body

open Cert.KernelIdeal.Gen Cert.Ffn
open Idealize.ShloMosaic Idealize.ShloMosaic.TcCoe Idealize.ShloMosaic.ValueIdx

theorem cast_self {s : Shape} {α : Type} (v : s.Idx → α) (h : s.ShapeCasts s) : shapeCast s v h = v :=
  Idealize.ShloMosaic.shapeCast_self v h

theorem rsqrt_at {s : Shape} (z : FVec Ideal s .f32) (i : s.Idx) : rsqrt z i = Ideal.rsqrt (z i) := rfl

theorem matmul_at {sl sr so : Shape} (d : DotDims sl sr so) (l : FVec Ideal sl .bf16) (r : FVec Ideal sr .bf16) (j : so.Idx) :
    matmul d none l r (constant so .f32 0x00000000#32) j = ∑ k : d.contr.Idx, l (d.lhsIdx j k) * r (d.rhsIdx j k) :=
  Ideal.matmul_constant_zero_apply d none l r j

/-! ## Rows -/

theorem rowSum_at (x : FVec Ideal S256x1024 .f32) (j : S256.Idx) :
    rowSum x j = ∑ k : Fin 1024, x (ix2 (j 0) k) := by
  unfold rowSum
  refine (Ideal.multiReduction_add_single x _ _ _ _ j).trans (Finset.sum_congr rfl fun k _ => congrArg x (funext fun a => Fin.ext ?_))
  match a with
  | ⟨0, _⟩ => rfl
  | ⟨1, _⟩ => rfl

theorem rmsV_at (x : FVec Ideal S256x1024 .f32) (g : FVec Ideal S1x1024 .f32) (i : S256x1024.Idx) (p q : ℕ)
    (h0 : (i 0).val = p) (h1 : (i 1).val = q) :
    rmsV x g i = rms (at2 (a := 256) (b := 1024) x p) (at2 (a := 1) (b := 1024) g 0) q := by
  have l0 : (i 0).val < 256 := (i 0).isLt
  have l1 : (i 1).val < 1024 := (i 1).isLt
  unfold rmsV rms
  rw [cast_self]
  have e1 : ∀ z : FVec Ideal S256x1 .f32, broadcastTo S256x1024 z broadcasts_S256x1_S256x1024 i = z (ix2 ⟨(i 0).val, l0⟩ 0) := fun z =>
    broadcastTo_apply _ _ _ _ fun a => by
      match a with
      | ⟨0, _⟩ => rfl
      | ⟨1, _⟩ => rfl
  have e2 : broadcastTo S256x1024 g broadcasts_S1x1024_S256x1024 i = at2 (a := 1) (b := 1024) g 0 q := by
    rw [broadcastTo_apply g _ i (ix2 0 ⟨(i 1).val, l1⟩) fun a => by
      match a with
      | ⟨0, _⟩ => rfl
      | ⟨1, _⟩ => rfl]
    exact eq_at2 (a := 1) (b := 1024) _ _ _ _ rfl h1
  have e3 : ∀ z : FVec Ideal S256 .f32, shapeCast S256x1 z shapeCasts_S256_S256x1 (ix2 ⟨(i 0).val, l0⟩ 0) = z (ix1 ⟨(i 0).val, l0⟩) := fun z =>
    shapeCast_apply z _ _ _ rfl
  rw [mulf_apply, mulf_apply, e1, e2, rsqrt_at, addf_apply, divf_apply, e3, rowSum_at]
  rw [zero_add]
  rw [eq_at2 (a := 256) (b := 1024) x i p q h0 h1]
  refine congrArg (· * _) (congrArg (_ * ·) (congrArg Ideal.rsqrt (congrArg (· + _) (congrArg (Ideal.div · _)
    (Finset.sum_congr rfl fun k _ => ?_)))))
  exact (mulf_apply _ _ _).trans (congrArg₂ (· * ·) (eq_at2 (a := 256) (b := 1024) x _ p k.val h0 rfl)
    (eq_at2 (a := 256) (b := 1024) x _ p k.val h0 rfl))

/-- The up projection of 256 rows by 256 columns of weights. -/
theorem upV_at (x : FVec Ideal S256x1024 .f32) (g : FVec Ideal S1x1024 .f32) (w : FVec Ideal S1024x256 .bf16) (i : S256x256.Idx)
    (p q : ℕ) (h0 : (i 0).val = p) (h1 : (i 1).val = q) :
    upV x g w i = ∑ k : Fin 1024, rms (at2 (a := 256) (b := 1024) x p) (at2 (a := 1) (b := 1024) g 0) k.val
      * at2 (a := 1024) (b := 256) w k.val q := by
  unfold upV
  rw [cast_self, matmul_at, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  exact congrArg₂ (· * ·) (rmsV_at x g _ p k.val
      (by rw [← h0]; unfold DotDims.lhsIdx; rw [dif_neg (by decide), dif_pos (by decide)]; rfl)
      ((DotDims.lhsIdx_val_of_single _ rfl _ _).trans hk))
    (eq_at2 (a := 1024) (b := 256) w _ k.val q ((DotDims.rhsIdx_val_of_single _ rfl _ _).trans hk)
      (by rw [← h1]; unfold DotDims.rhsIdx; rw [dif_neg (by decide), dif_pos (by decide)]; rfl))

/-- One lane block of it: `j` even takes the first 128 columns, `j` odd the last. -/
theorem stageV_at (x : FVec Ideal S256x1024 .f32) (g : FVec Ideal S1x1024 .f32) (w : FVec Ideal S1024x256 .bf16) (j : ℕ)
    (i : S1x256x128.Idx) :
    stageV x g w j i = ∑ k : Fin 1024, rms (at2 (a := 256) (b := 1024) x (i 1).val) (at2 (a := 1) (b := 1024) g 0) k.val
      * at2 (a := 1024) (b := 256) w k.val (128 * (j % 2) + (i 2).val) := by
  have l0 : (i 0).val < 1 := (i 0).isLt
  have l1 : (i 1).val < 256 := (i 1).isLt
  have l2 : (i 2).val < 128 := (i 2).isLt
  unfold stageV
  rcases Nat.mod_two_eq_zero_or_one j with h | h
  · rw [h]
    show shapeCast S1x256x128 (extractStridedSlice S256x128 ![0, 0] (upV x g w) slices_S256x256_o0_0_S256x128) shapeCasts_S256x128_S1x256x128 i = _
    rw [shapeCast_apply _ _ i (ix2 ⟨(i 1).val, l1⟩ ⟨(i 2).val, l2⟩) (by
        rw [Shape.rowMajor_val_two, Shape.rowMajor_val_three]
        show (i 1).val * 128 + (i 2).val = ((i 0).val * 256 + (i 1).val) * 128 + (i 2).val; omega),
      extractStridedSlice_apply _ _ _ _ (ix2 ⟨(i 1).val, by omega⟩ ⟨(i 2).val, by omega⟩) (fun a => by
        match a with
        | ⟨0, _⟩ => show (i 1).val = 0 + (i 1).val; omega
        | ⟨1, _⟩ => show (i 2).val = 0 + (i 2).val; omega),
      upV_at x g w _ (i 1).val (128 * 0 + (i 2).val) rfl (by show (i 2).val = _; omega)]
  · rw [h]
    show shapeCast S1x256x128 (extractStridedSlice S256x128 ![0, 128] (upV x g w) slices_S256x256_o0_128_S256x128) shapeCasts_S256x128_S1x256x128 i = _
    rw [shapeCast_apply _ _ i (ix2 ⟨(i 1).val, l1⟩ ⟨(i 2).val, l2⟩) (by
        rw [Shape.rowMajor_val_two, Shape.rowMajor_val_three]
        show (i 1).val * 128 + (i 2).val = ((i 0).val * 256 + (i 1).val) * 128 + (i 2).val; omega),
      extractStridedSlice_apply _ _ _ _ (ix2 ⟨(i 1).val, by omega⟩ ⟨128 + (i 2).val, by omega⟩) (fun a => by
        match a with
        | ⟨0, _⟩ => show (i 1).val = 0 + (i 1).val; omega
        | ⟨1, _⟩ => show 128 + (i 2).val = 128 + (i 2).val; omega),
      upV_at x g w _ (i 1).val (128 * 1 + (i 2).val) rfl (by show 128 + (i 2).val = _; omega)]

/-- The finished rows. -/
theorem yV_at (h : FVec Ideal S256x1024 .f32) (a : FVec Ideal S256x2816 .bf16) (w : FVec Ideal S2816x1024 .bf16)
    (g : FVec Ideal S1x1024 .f32) (i : S256x1024.Idx) (p q : ℕ) (h0 : (i 0).val = p) (h1 : (i 1).val = q)
    (f : ℕ → EReal) (hf : ∀ y : S256x2816.Idx, (y 0).val = p → a y = f (y 1).val) :
    yV h a w g i = rms (down (at2 (a := 256) (b := 1024) h p) f (at2 (a := 2816) (b := 1024) w)) (at2 (a := 1) (b := 1024) g 0) q := by
  unfold yV
  rw [rmsV_at _ g i p q h0 h1]
  have key : ∀ k, k < 1024 → at2 (a := 256) (b := 1024) (addf h (matmul dot_S256x2816_S2816x1024_S256x1024_1_0_0_1_n_n none a
      (shapeCast S2816x1024 w shapeCasts_S2816x1024_S2816x1024) (constant S256x1024 .f32 0x00000000#32))) p k
      = down (at2 (a := 256) (b := 1024) h p) f (at2 (a := 2816) (b := 1024) w) k := by
    intro k hk
    have lp : p < 256 := h0 ▸ (i 0).isLt
    rw [← eq_at2 (a := 256) (b := 1024) _ (ix2 ⟨p, lp⟩ ⟨k, hk⟩) p k rfl rfl, addf_apply, cast_self,
      matmul_at, eq_at2 (a := 256) (b := 1024) h (ix2 ⟨p, lp⟩ ⟨k, hk⟩) p k rfl rfl]
    unfold down
    refine congrArg (_ + ·) ?_
    rw [← Equiv.sum_comp (contrEquiv1 dot_S256x2816_S2816x1024_S256x1024_1_0_0_1_n_n 2816 rfl rfl).symm]
    refine Finset.sum_congr rfl fun q _ => ?_
    have hq := contrEquiv1_symm_val dot_S256x2816_S2816x1024_S256x1024_1_0_0_1_n_n 2816 rfl rfl q
    exact congrArg₂ (· * ·)
      ((hf _ (by unfold DotDims.lhsIdx; rw [dif_neg (by decide), dif_pos (by decide)]; rfl)).trans
        (congrArg f ((DotDims.lhsIdx_val_of_single _ rfl _ _).trans hq)))
      (eq_at2 (a := 2816) (b := 1024) w _ q.val k ((DotDims.rhsIdx_val_of_single _ rfl _ _).trans hq)
        (by unfold DotDims.rhsIdx; rw [dif_neg (by decide), dif_pos (by decide)]; rfl))
  have lq : q < 1024 := h1 ▸ (i 1).isLt
  unfold rms
  rw [key q lq]
  refine congrArg (· * _) (congrArg (_ * ·) (congrArg Ideal.rsqrt (congrArg (· + _) (congrArg (Ideal.div · _)
    (congrArg (0 + ·) (Finset.sum_congr rfl fun k _ => by rw [key k.val k.isLt]))))))

/-! ## The activation -/

section Act

variable (cw : ℕ → ℕ → EReal) (cb : ℕ → EReal) (u : ℕ → ℕ → EReal)
  (fl : BitVec 32) (wt : ℕ → ℕ → FVec Ideal S1x128 .f32) (bs : ℕ → FVec Ideal S1x128 .f32) (ub : ℕ → ℕ → ℕ → FVec Ideal S1x64x128 .f32)
  (hfl : fl = 0#32)
  (hw : ∀ q j y, q < 3 → j < 44 → wt q j y = cw q (128 * j + (y 1).val))
  (hb : ∀ j y, j < 44 → bs j y = cb (128 * j + (y 1).val))
  (hu : ∀ q rb j y, q < 3 → rb < 4 → j < 44 → ub q rb j y = u (64 * rb + (y 1).val + q) (128 * j + (y 2).val))

theorem row_bcast (z : FVec Ideal S1x128 .f32) (i : S64x128.Idx) :
    broadcastTo S64x128 z broadcasts_S1x128_S64x128 i = z (ix2 0 ⟨(i 1).val, (i 1).isLt⟩) :=
  broadcastTo_apply z _ i _ fun a => by
    match a with
    | ⟨0, _⟩ => rfl
    | ⟨1, _⟩ => rfl

include hb in
theorem biasV_at (j : ℕ) (hj : j < 44) (i : S64x128.Idx) : biasV (bs j) i = cb (128 * j + (i 1).val) := by
  unfold biasV
  rw [cast_self, cast_self, row_bcast, hb j _ hj]

include hw hu in
theorem convV_at (rb j : ℕ) (hrb : rb < 4) (hj : j < 44) (init : FVec Ideal S64x128 .f32) (i : S64x128.Idx)
    (hi : init i = cb (128 * j + (i 1).val)) :
    convV init (fun q => wt q j) (fun q => ub q rb j) i = conv cw cb u (64 * rb + (i 0).val) (128 * j + (i 1).val) := by
  have l0 : (i 0).val < 64 := (i 0).isLt
  have l1 : (i 1).val < 128 := (i 1).isLt
  have tap : ∀ q, q < 3 → tapV (wt q j) (ub q rb j) i = cw q (128 * j + (i 1).val) * u (64 * rb + (i 0).val + q) (128 * j + (i 1).val) := by
    intro q hq
    unfold tapV
    rw [mulf_apply, cast_self, row_bcast, hw q j _ hq hj,
      shapeCast_apply _ _ i (ix3 0 ⟨(i 0).val, l0⟩ ⟨(i 1).val, l1⟩) (by
        rw [Shape.rowMajor_val_two, Shape.rowMajor_val_three]
        show (0 * 64 + (i 0).val) * 128 + (i 1).val = (i 0).val * 128 + (i 1).val; omega), hu q rb j _ hq hrb hj]
  unfold convV conv
  have swap : ∀ a b c d : EReal, d + a + b + c = a + b + c + d := fun a b c d => by
    rw [add_assoc, add_assoc, add_comm, ← add_assoc]
  refine Eq.trans ?_ (swap _ _ _ _)
  rw [addf_apply, addf_apply, addf_apply]
  refine congrArg₂ (· + ·) (congrArg₂ (· + ·) (congrArg₂ (· + ·) hi ?_) ?_) ?_
  · exact (tap 0 (by omega)).trans (mul_comm _ _)
  · exact (tap 1 (by omega)).trans (mul_comm _ _)
  · exact (tap 2 (by omega)).trans (mul_comm _ _)

theorem siluV_at (g : FVec Ideal S64x128 .f32) (i : S64x128.Idx) : siluV g i = silu (g i) := by
  unfold siluV silu
  rw [mulf_apply, divf_apply, addf_apply]
  show g i * Ideal.div (Ideal.ofBits .f32 0x3F800000#32) (Ideal.ofBits .f32 0x3F800000#32 + Ideal.exp (Ideal.ofBits .f32 0x00000000#32 - g i)) = _
  rw [Ideal.ofBits_zero_f32, zero_sub]

include hw hb hu in
theorem gateV_at (k : ℕ) (hk : k < 88) (init : FVec Ideal S64x128 .f32) (i : S64x128.Idx)
    (hi : init i = cb (128 * (k % 22) + (i 1).val)) :
    gateV wt bs ub k init i = act cw cb u (64 * (k / 22) + (i 0).val) (128 * (k % 22) + (i 1).val) := by
  unfold gateV act
  rw [mulf_apply, siluV_at,
    convV_at cw cb u wt ub hw hu (k / 22) (k % 22) (by omega) (by omega) init i hi,
    convV_at cw cb u wt ub hw hu (k / 22) (k % 22 + 22) (by omega) (by omega) _ i (biasV_at cb bs hb _ (by omega) i),
    show 128 * (k % 22 + 22) + (i 1).val = 128 * (k % 22) + (i 1).val + 2816 by omega]

include hfl in
theorem pickV_at (prev init : FVec Ideal S64x128 .f32) (i : S64x128.Idx) : pickV (F := Ideal) fl prev init i = init i := by
  subst hfl; rfl

include hfl hw hb hu in
theorem actV_at (k : ℕ) (hk : k < 88) (i : S64x128.Idx) :
    actV (F := Ideal) fl wt bs ub k i = act cw cb u (64 * (k / 22) + (i 0).val) (128 * (k % 22) + (i 1).val) := by
  cases k with
  | zero => exact gateV_at cw cb u wt bs ub hw hb hu 0 hk _ i (biasV_at cb bs hb 0 (by omega) i)
  | succ k =>
    exact gateV_at cw cb u wt bs ub hw hb hu (k + 1) hk _ i ((pickV_at fl hfl _ _ i).trans (biasV_at cb bs hb _ (by omega) i))

end Act

end Cert.KernelIdeal.Body

end
-- ==== Proof.Reads.lean ====
/- What the loads of a step read, and what the contents its stores leave read: the two buffers, the activation, the
   finished rows and the carried tail, at row and column numbers. -/
module

public import proofs.«01_k».proof.Proof.Payload

@[expose] public section

noncomputable section

open scoped BigOperators

namespace Cert.KernelIdeal.Body

open Cert.KernelIdeal.Gen Cert.Ffn
open Idealize.ShloMosaic Idealize.ShloMosaic.TcCoe Idealize.ShloMosaic.ValueIdx

/-- An element of a unit-stride rectangle lies at its offset plus the element's own coordinate. -/
theorem emb_unit {s : Shape} (off size : Fin s.rank → ℕ) (inb : ∀ a, off a + size a ≤ s.size a)
    (y : (Rect.unit (s := s) off size inb).shape.Idx) (a : Fin s.rank) :
    ((Rect.unit (s := s) off size inb).emb y a).val = off a + (y a).val := by
  rw [Rect.emb_apply]; show off a + 1 * (y a).val = _; omega

/-! ## Loads -/

theorem ubL_at (M : Ubuf) (f : M.view.ty.Contents (Elt Ideal)) (j r : ℕ) (hj : j < 44) (hr : r < 201) (y : S1x64x128.Idx) :
    ubL (F := Ideal) M f j r y = at3 (a := 44) (b := 264) (c := 128) (M.view.read (Elt Ideal) f) j (r + (y 1).val) (y 2).val := by
  have l0 : (y 0).val < 1 := (y 0).isLt
  refine eq_at3 (a := 44) (b := 264) (c := 128) (M.view.read (Elt Ideal) f) _ _ _ _
    ((emb_unit (s := S44x264x128) ![j % 44, r % 201, 0] S1x64x128.size (inb_ub j r) y 0).trans ?_) ((emb_unit (s := S44x264x128) ![j % 44, r % 201, 0] S1x64x128.size (inb_ub j r) y 1).trans ?_) ((emb_unit (s := S44x264x128) ![j % 44, r % 201, 0] S1x64x128.size (inb_ub j r) y 2).trans ?_)
  · show j % 44 + (y 0).val = j; omega
  · show r % 201 + (y 1).val = _; rw [Nat.mod_eq_of_lt hr]
  · show 0 + (y 2).val = _; omega

theorem tapL_at (M : Memref sig .tc .vmem S3x5632 .f32) (hM : M.IsWhole) (x : Vec Ideal S3x5632 .f32) (q j : ℕ) (hq : q < 3)
    (hj : j < 44) (y : S1x128.Idx) :
    tapL (F := Ideal) M (hM.unread x) q j y = at2 (a := 3) (b := 5632) x q (128 * j + (y 1).val) := by
  have l0 : (y 0).val < 1 := (y 0).isLt
  refine (congrFun (hM.read_unread x) _).trans (eq_at2 (a := 3) (b := 5632) x _ _ _
    ((emb_unit (s := S3x5632) ![q % 3, 128 * (j % 44)] S1x128.size (inb_tap q j) y 0).trans ?_) ((emb_unit (s := S3x5632) ![q % 3, 128 * (j % 44)] S1x128.size (inb_tap q j) y 1).trans ?_))
  · show q % 3 + (y 0).val = q; omega
  · show 128 * (j % 44) + (y 1).val = _; rw [Nat.mod_eq_of_lt hj]

theorem biasL_at (M : Memref sig .tc .vmem S1x5632 .f32) (hM : M.IsWhole) (x : Vec Ideal S1x5632 .f32) (j : ℕ) (hj : j < 44)
    (y : S1x128.Idx) :
    biasL (F := Ideal) M (hM.unread x) j y = at2 (a := 1) (b := 5632) x 0 (128 * j + (y 1).val) := by
  have l0 : (y 0).val < 1 := (y 0).isLt
  refine (congrFun (hM.read_unread x) _).trans (eq_at2 (a := 1) (b := 5632) x _ _ _
    ((emb_unit (s := S1x5632) ![0, 128 * (j % 44)] S1x128.size (inb_bias j) y 0).trans ?_) ((emb_unit (s := S1x5632) ![0, 128 * (j % 44)] S1x128.size (inb_bias j) y 1).trans ?_))
  · show 0 + (y 0).val = 0; omega
  · show 128 * (j % 44) + (y 1).val = _; rw [Nat.mod_eq_of_lt hj]

theorem upL_at (M : Memref sig .tc .vmem S1024x5632 .bf16) (hM : M.IsWhole) (x : Vec Ideal S1024x5632 .bf16) (i k q : ℕ) (hi : i < 22)
    (hk : k < 1024) (hq : q < 256) :
    at2 (a := 1024) (b := 256) (upL (F := Ideal) M (hM.unread x) i) k q = at2 (a := 1024) (b := 5632) x k (256 * i + q) := by
  rw [← eq_at2 (a := 1024) (b := 256) (upL (F := Ideal) M (hM.unread x) i) (ix2 ⟨k, hk⟩ ⟨q, hq⟩) k q rfl rfl]
  refine (congrFun (hM.read_unread x) _).trans (eq_at2 (a := 1024) (b := 5632) x _ _ _
    ((emb_unit (s := S1024x5632) ![0, 256 * (i % 22)] S1024x256.size (inb_up i) (ix2 ⟨k, hk⟩ ⟨q, hq⟩) 0).trans ?_) ((emb_unit (s := S1024x5632) ![0, 256 * (i % 22)] S1024x256.size (inb_up i) (ix2 ⟨k, hk⟩ ⟨q, hq⟩) 1).trans ?_))
  · show 0 + k = k; omega
  · show 256 * (i % 22) + q = _; rw [Nat.mod_eq_of_lt hi]

theorem lastL_at (M : Memref sig .tc .vmem S1x2x5632 .f32) (hM : M.IsWhole) (x : Vec Ideal S1x2x5632 .f32) (j : ℕ) (hj : j < 44)
    (y : S1x2x128.Idx) :
    lastL (F := Ideal) M (hM.unread x) j y = at3 (a := 1) (b := 2) (c := 5632) x 0 (y 1).val (128 * j + (y 2).val) := by
  have l0 : (y 0).val < 1 := (y 0).isLt
  refine (congrFun (hM.read_unread x) _).trans (eq_at3 (a := 1) (b := 2) (c := 5632) x _ _ _ _
    ((emb_unit (s := S1x2x5632) ![0, 0, 128 * (j % 44)] S1x2x128.size (inb_last j) y 0).trans ?_) ((emb_unit (s := S1x2x5632) ![0, 0, 128 * (j % 44)] S1x2x128.size (inb_last j) y 1).trans ?_) ((emb_unit (s := S1x2x5632) ![0, 0, 128 * (j % 44)] S1x2x128.size (inb_last j) y 2).trans ?_))
  · show 0 + (y 0).val = 0; omega
  · show 0 + (y 1).val = _; omega
  · show 128 * (j % 44) + (y 2).val = _; rw [Nat.mod_eq_of_lt hj]

theorem rowsL_at (M : Ubuf) (f : M.view.ty.Contents (Elt Ideal)) (j : ℕ) (hj : j < 44) (y : S1x2x128.Idx) :
    rowsL (F := Ideal) M f j y = at3 (a := 44) (b := 264) (c := 128) (M.view.read (Elt Ideal) f) j (262 + (y 1).val) (y 2).val := by
  have l0 : (y 0).val < 1 := (y 0).isLt
  refine eq_at3 (a := 44) (b := 264) (c := 128) (M.view.read (Elt Ideal) f) _ _ _ _
    ((emb_unit (s := S44x264x128) ![j % 44, 262, 0] S1x2x128.size (inb_rows j) y 0).trans ?_) ((emb_unit (s := S44x264x128) ![j % 44, 262, 0] S1x2x128.size (inb_rows j) y 1).trans ?_) ((emb_unit (s := S44x264x128) ![j % 44, 262, 0] S1x2x128.size (inb_rows j) y 2).trans ?_)
  · show j % 44 + (y 0).val = j; omega
  · rfl
  · show 0 + (y 2).val = _; omega

theorem zero_off (a : Fin 2) (n : ℕ) : (![0, 0] : Fin 2 → ℕ) a + n = n := by
  match a with
  | ⟨0, _⟩ => exact Nat.zero_add _
  | ⟨1, _⟩ => exact Nat.zero_add _

theorem fullL_eq (M : Memref sig .tc .vmem S256x1024 .f32) (hM : M.IsWhole) (x : Vec Ideal S256x1024 .f32) :
    fullL (F := Ideal) M (hM.unread x) = x := by
  funext y
  refine (congrFun (hM.read_unread x) _).trans (congrArg x (funext fun a => Fin.ext ((emb_unit _ _ inb_S256x1024_S256x1024_0_0 y a).trans ?_)))
  exact zero_off a _

theorem gainL_eq (M : Memref sig .tc .vmem S1x1024 .f32) (hM : M.IsWhole) (x : Vec Ideal S1x1024 .f32) :
    gainL (F := Ideal) M (hM.unread x) = x := by
  funext y
  refine (congrFun (hM.read_unread x) _).trans (congrArg x (funext fun a => Fin.ext ((emb_unit _ _ inb_S1x1024_S1x1024_0_0 y a).trans ?_)))
  exact zero_off a _

theorem downL_eq (M : Memref sig .tc .vmem S2816x1024 .bf16) (hM : M.IsWhole) (x : Vec Ideal S2816x1024 .bf16) :
    downL (F := Ideal) M (hM.unread x) = x := by
  funext y
  refine (congrFun (hM.read_unread x) _).trans (congrArg x (funext fun a => Fin.ext ((emb_unit _ _ inb_S2816x1024_S2816x1024_0_0 y a).trans ?_)))
  exact zero_off a _

theorem flagL_eq (M : Memref sig .tc .smem S1 .i32) (hM : M.IsWhole) (x : Vec Ideal S1 .i32) (hx : ∀ y, x y = 0#32) :
    flagL (F := Ideal) M (hM.unread x) = 0#32 :=
  (congrFun (hM.read_unread x) _).trans (hx _)

/-! ## The buffer after the tail is put in -/

/-- The buffer `o` with rows 6 and 7 of every lane block replaced by `t`. -/
def put (o : ℕ → ℕ → ℕ → EReal) (t : ℕ → ℕ → EReal) (j q l : ℕ) : EReal :=
  if 6 ≤ q ∧ q < 8 then t (q - 6) (128 * j + l) else o j q l

theorem put_read (M N : Ubuf) (f : M.view.ty.Contents (Elt Ideal)) (T : Memref sig .tc .vmem S1x2x5632 .f32) (hT : T.IsWhole)
    (x : Vec Ideal S1x2x5632 .f32) (j q l : ℕ) (hj : j < 44) (hq : q < 264) (hl : l < 128) :
    at3 (a := 44) (b := 264) (c := 128) (M.view.read (Elt Ideal) (M.view.writes (Elt Ideal) f (pieces (tailP (lastL (F := Ideal) T (hT.unread x))) 44))) j q l
      = put (at3 (a := 44) (b := 264) (c := 128) (M.view.read (Elt Ideal) f)) (at3 (a := 1) (b := 2) (c := 5632) x 0) j q l := by
  rw [← eq_at3 (a := 44) (b := 264) (c := 128) (M.view.read (Elt Ideal) (M.view.writes (Elt Ideal) f (pieces (tailP (lastL (F := Ideal) T (hT.unread x))) 44)))
    (ix3 ⟨j, hj⟩ ⟨q, hq⟩ ⟨l, hl⟩) j q l rfl rfl rfl]
  unfold put
  by_cases h : 6 ≤ q ∧ q < 8
  · rw [if_pos h]
    refine (View.read_writes_apply_of_pieces (v := M.view) (f := f)
      (G := fun i : S44x264x128.Idx => at3 (a := 1) (b := 2) (c := 5632) x 0 ((i 1).val - 6) (128 * (i 0).val + (i 2).val)) _ ?_ _ ?_).trans rfl
    · intro p hp y
      obtain ⟨k, hk, rfl⟩ := (mem_pieces _ _ _).mp hp
      have l0 : (y 0).val < 1 := (y 0).isLt
      show shapeCast S1x2x128 (shapeCast S2x128 (lastL (F := Ideal) T (hT.unread x) k) shapeCasts_S1x2x128_S2x128) shapeCasts_S2x128_S1x2x128 y = _
      refine (congrFun (shapeCast_shapeCast _ _ _) y).trans ((lastL_at T hT x k hk y).trans ?_)
      have e0 : ((tailP (lastL (F := Ideal) T (hT.unread x)) k).1.emb y 0).val = k := (emb_unit _ _ (inb_tail k) y 0).trans (by show k % 44 + (y 0).val = k; omega)
      have e1 : ((tailP (lastL (F := Ideal) T (hT.unread x)) k).1.emb y 1).val = 6 + (y 1).val := emb_unit _ _ (inb_tail k) y 1
      have e2 : ((tailP (lastL (F := Ideal) T (hT.unread x)) k).1.emb y 2).val = (y 2).val := (emb_unit _ _ (inb_tail k) y 2).trans (by show 0 + (y 2).val = _; omega)
      show _ = at3 (a := 1) (b := 2) (c := 5632) x 0 (_ - 6) (128 * _ + _)
      rw [e0, e1, e2, Nat.add_sub_cancel_left]
    · refine ⟨_, (mem_pieces _ _ _).mpr ⟨j, hj, rfl⟩, (Rect.mem_set_unit (inb := inb_tail j)).mpr (fun_three ?_ ?_ ?_)⟩
      · show j % 44 ≤ j ∧ j < j % 44 + 1; omega
      · show 6 ≤ q ∧ q < 6 + 2; omega
      · show 0 ≤ l ∧ l < 0 + 128; omega
  · rw [if_neg h, View.read_writes_apply_of_forall_not_mem]
    · exact eq_at3 (a := 44) (b := 264) (c := 128) _ _ _ _ _ rfl rfl rfl
    · intro p hp hm
      obtain ⟨k, hk, rfl⟩ := (mem_pieces _ _ _).mp hp
      have := (Rect.mem_set_unit (inb := inb_tail k)).mp hm 1
      have : 6 ≤ q ∧ q < 6 + 2 := this
      omega

/-! ## The next buffer -/

/-- The next buffer: the last eight rows of `o` first, then the up projection of the 256 rows `h`. -/
def next (o : ℕ → ℕ → ℕ → EReal) (h : ℕ → ℕ → EReal) (g : ℕ → EReal) (w : ℕ → ℕ → EReal) (j q l : ℕ) : EReal :=
  if q < 8 then o j (256 + q) l else up (h (q - 8)) g w (128 * j + l)

theorem next_read (M N : Ubuf) (f : M.view.ty.Contents (Elt Ideal)) (e : N.view.ty.Contents (Elt Ideal))
    (W : Memref sig .tc .vmem S1024x5632 .bf16) (hW : W.IsWhole) (x : Vec Ideal S256x1024 .f32) (g : Vec Ideal S1x1024 .f32)
    (w : Vec Ideal S1024x5632 .bf16) (j q l : ℕ) (hj : j < 44) (hq : q < 264) (hl : l < 128) :
    at3 (a := 44) (b := 264) (c := 128) (M.view.read (Elt Ideal) (M.view.writes (Elt Ideal) f
        (carryP (F := Ideal) N e :: pieces (stageP (F := Ideal) x g (upL (F := Ideal) W (hW.unread w))) 44))) j q l
      = next (at3 (a := 44) (b := 264) (c := 128) (N.view.read (Elt Ideal) e)) (at2 (a := 256) (b := 1024) x) (at2 (a := 1) (b := 1024) g 0)
          (at2 (a := 1024) (b := 5632) w) j q l := by
  rw [← eq_at3 (a := 44) (b := 264) (c := 128) (M.view.read (Elt Ideal) (M.view.writes (Elt Ideal) f
        (carryP (F := Ideal) N e :: pieces (stageP (F := Ideal) x g (upL (F := Ideal) W (hW.unread w))) 44)))
    (ix3 ⟨j, hj⟩ ⟨q, hq⟩ ⟨l, hl⟩) j q l rfl rfl rfl]
  refine (View.read_writes_apply_of_pieces (v := M.view) (f := f)
    (G := fun i : S44x264x128.Idx => next (at3 (a := 44) (b := 264) (c := 128) (N.view.read (Elt Ideal) e)) (at2 (a := 256) (b := 1024) x)
      (at2 (a := 1) (b := 1024) g 0) (at2 (a := 1024) (b := 5632) w) (i 0).val (i 1).val (i 2).val) _ ?_ _ ?_).trans rfl
  · intro p hp y
    rcases List.mem_cons.mp hp with rfl | hp
    · have l1 : (y 1).val < 8 := (y 1).isLt
      have e0 : ((carryP (F := Ideal) N e).1.emb y 0).val = (y 0).val := (emb_unit _ _ inb_S44x264x128_S44x8x128_0_0_0 y 0).trans (Nat.zero_add _)
      have e1 : ((carryP (F := Ideal) N e).1.emb y 1).val = (y 1).val := (emb_unit _ _ inb_S44x264x128_S44x8x128_0_0_0 y 1).trans (Nat.zero_add _)
      have e2 : ((carryP (F := Ideal) N e).1.emb y 2).val = (y 2).val := (emb_unit _ _ inb_S44x264x128_S44x8x128_0_0_0 y 2).trans (Nat.zero_add _)
      show _ = next _ _ _ _ _ _ _
      rw [e0, e1, e2]
      unfold next
      rw [if_pos l1]
      refine (congrFun (cast_self (N.view.readAt (Elt Ideal) (Rect.unit (s := S44x264x128) ![0, 256, 0] S44x8x128.size inb_S44x264x128_S44x8x128_0_256_0).toLoadRect e) _) y).trans (eq_at3 (a := 44) (b := 264) (c := 128) (N.view.read (Elt Ideal) e)
        ((Rect.unit (s := S44x264x128) ![0, 256, 0] S44x8x128.size inb_S44x264x128_S44x8x128_0_256_0).emb y) _ _ _
        ((emb_unit (s := S44x264x128) ![0, 256, 0] S44x8x128.size inb_S44x264x128_S44x8x128_0_256_0 y 0).trans (Nat.zero_add _)) (emb_unit (s := S44x264x128) ![0, 256, 0] S44x8x128.size inb_S44x264x128_S44x8x128_0_256_0 y 1)
        ((emb_unit (s := S44x264x128) ![0, 256, 0] S44x8x128.size inb_S44x264x128_S44x8x128_0_256_0 y 2).trans (Nat.zero_add _)))
    · obtain ⟨k, hk, rfl⟩ := (mem_pieces _ _ _).mp hp
      have l0 : (y 0).val < 1 := (y 0).isLt
      have l2 : (y 2).val < 128 := (y 2).isLt
      have e0 : ((stageP (F := Ideal) x g (upL (F := Ideal) W (hW.unread w)) k).1.emb y 0).val = k := (emb_unit _ _ (inb_stage k) y 0).trans (by show k % 44 + (y 0).val = k; omega)
      have e1 : ((stageP (F := Ideal) x g (upL (F := Ideal) W (hW.unread w)) k).1.emb y 1).val = 8 + (y 1).val := emb_unit _ _ (inb_stage k) y 1
      have e2 : ((stageP (F := Ideal) x g (upL (F := Ideal) W (hW.unread w)) k).1.emb y 2).val = (y 2).val := (emb_unit _ _ (inb_stage k) y 2).trans (Nat.zero_add _)
      show stageV x g (upL (F := Ideal) W (hW.unread w) (k / 2)) k y = next _ _ _ _ _ _ _
      rw [e0, e1, e2]
      refine (stageV_at x g _ k y).trans ?_
      unfold next up
      rw [if_neg (by omega), Nat.add_sub_cancel_left]
      refine Finset.sum_congr rfl fun q _ => congrArg (rms (at2 (a := 256) (b := 1024) x (y 1).val) (at2 (a := 1) (b := 1024) g 0) q.val * ·) ?_
      rw [upL_at W hW w (k / 2) q.val _ (by omega) q.isLt (by omega)]
      exact congrArg (at2 (a := 1024) (b := 5632) w q.val) (by omega)
  · by_cases h : q < 8
    · refine ⟨_, List.mem_cons_self, (Rect.mem_set_unit (inb := inb_S44x264x128_S44x8x128_0_0_0)).mpr (fun_three ?_ ?_ ?_)⟩
      · show 0 ≤ j ∧ j < 0 + 44; omega
      · show 0 ≤ q ∧ q < 0 + 8; omega
      · show 0 ≤ l ∧ l < 0 + 128; omega
    · refine ⟨_, List.mem_cons_of_mem _ ((mem_pieces _ _ _).mpr ⟨j, hj, rfl⟩), (Rect.mem_set_unit (inb := inb_stage j)).mpr (fun_three ?_ ?_ ?_)⟩
      · show j % 44 ≤ j ∧ j < j % 44 + 1; omega
      · show 8 ≤ q ∧ q < 8 + 256; omega
      · show 0 ≤ l ∧ l < 0 + 128; omega

/-! ## The activation and the finished rows -/

/-- A buffer read as rows of all 5632 columns, the first of them row 6. -/
def rowsOf (o : ℕ → ℕ → ℕ → EReal) (q k : ℕ) : EReal := o (k / 128) (q + 6) (k % 128)

theorem ubAt_at (M : Ubuf) (f f' : M.view.ty.Contents (Elt Ideal))
    (h : ∀ j q l, j < 44 → q < 264 → l < 128 → 8 ≤ q → at3 (a := 44) (b := 264) (c := 128) (M.view.read (Elt Ideal) f) j q l
      = at3 (a := 44) (b := 264) (c := 128) (M.view.read (Elt Ideal) f') j q l)
    (q rb j : ℕ) (y : S1x64x128.Idx) (hq : q < 3) (hrb : rb < 4) (hj : j < 44) :
    ubAt (F := Ideal) M f f' q rb j y
      = rowsOf (at3 (a := 44) (b := 264) (c := 128) (M.view.read (Elt Ideal) f')) (64 * rb + (y 1).val + q) (128 * j + (y 2).val) := by
  have l1 : (y 1).val < 64 := (y 1).isLt
  have l2 : (y 2).val < 128 := (y 2).isLt
  have key : ∀ r, 8 ≤ r → r < 201 → r = 64 * rb + 6 + q → ubL (F := Ideal) M f j r y
      = rowsOf (at3 (a := 44) (b := 264) (c := 128) (M.view.read (Elt Ideal) f')) (64 * rb + (y 1).val + q) (128 * j + (y 2).val) := by
    intro r h8 hr he
    rw [ubL_at M f j r hj hr y, h j _ _ hj (by omega) l2 (by omega)]
    unfold rowsOf
    rw [show (128 * j + (y 2).val) / 128 = j by omega, show (128 * j + (y 2).val) % 128 = (y 2).val by omega,
      show 64 * rb + (y 1).val + q + 6 = r + (y 1).val by omega]
  have key' : ∀ r, r < 201 → r = 64 * rb + 6 + q → ubL (F := Ideal) M f' j r y
      = rowsOf (at3 (a := 44) (b := 264) (c := 128) (M.view.read (Elt Ideal) f')) (64 * rb + (y 1).val + q) (128 * j + (y 2).val) := by
    intro r hr he
    rw [ubL_at M f' j r hj hr y]
    unfold rowsOf
    rw [show (128 * j + (y 2).val) / 128 = j by omega, show (128 * j + (y 2).val) % 128 = (y 2).val by omega,
      show 64 * rb + (y 1).val + q + 6 = r + (y 1).val by omega]
  unfold ubAt
  split
  · exact key' 6 (by omega) rfl
  · exact key' 7 (by omega) rfl
  · rename_i h0 h1
    refine key _ ?_ (by omega) rfl
    rcases Nat.eq_zero_or_pos rb with hz | hz
    · subst hz
      have a0 : q ≠ 0 := fun e => h0 rfl e
      have a1 : q ≠ 1 := fun e => h1 rfl e
      omega
    · omega

theorem act_read (A : Memref sig .tc .vmem S256x2816 .bf16) (cw : ℕ → ℕ → EReal) (cb : ℕ → EReal) (u : ℕ → ℕ → EReal)
    (a : ℕ → FVec Ideal S64x128 .f32)
    (ha : ∀ k, k < 88 → ∀ i : S64x128.Idx, a k i = act cw cb u (64 * (k / 22) + (i 0).val) (128 * (k % 22) + (i 1).val)) (y : S256x2816.Idx) :
    A.view.readCov (pieces (actP (F := Ideal) a) 88) (Rect.unit (s := S256x2816) ![0, 0] S256x2816.size inb_S256x2816_S256x2816_0_0).toLoadRect y
      = act cw cb u (y 0).val (y 1).val := by
  have l0 : (y 0).val < 256 := (y 0).isLt
  have l1 : (y 1).val < 2816 := (y 1).isLt
  have ey : (Rect.unit (s := S256x2816) ![0, 0] S256x2816.size inb_S256x2816_S256x2816_0_0).emb y = y := funext fun a =>
    Fin.ext ((emb_unit _ _ inb_S256x2816_S256x2816_0_0 y a).trans (zero_off a _))
  show A.view.read (Elt Ideal) (A.view.writes (Elt Ideal) A.view.junk (pieces (actP (F := Ideal) a) 88))
    ((Rect.unit (s := S256x2816) ![0, 0] S256x2816.size inb_S256x2816_S256x2816_0_0).emb y) = _
  rw [ey]
  refine (View.read_writes_apply_of_pieces (v := A.view) (f := A.view.junk)
    (G := fun i : S256x2816.Idx => act cw cb u (i 0).val (i 1).val) _ ?_ y ?_).trans rfl
  · intro p hp z
    obtain ⟨k, hk, rfl⟩ := (mem_pieces _ _ _).mp hp
    have e0 : ((actP (F := Ideal) a k).1.emb z 0).val = 64 * (k / 22) + (z 0).val := (emb_unit _ _ (inb_act k) z 0).trans (by
      show 64 * (k / 22 % 4) + (z 0).val = _; omega)
    have e1 : ((actP (F := Ideal) a k).1.emb z 1).val = 128 * (k % 22) + (z 1).val := emb_unit _ _ (inb_act k) z 1
    show _ = act cw cb u _ _
    rw [e0, e1, ← ha k hk z]
    exact congrFun (cast_self _ _) z
  · refine ⟨_, (mem_pieces _ _ _).mpr ⟨22 * ((y 0).val / 64) + (y 1).val / 128, by omega, rfl⟩,
      (Rect.mem_set_unit (inb := inb_act (22 * ((y 0).val / 64) + (y 1).val / 128))).mpr (Fin.forall_fin_two.mpr ⟨?_, ?_⟩)⟩
    · show 64 * ((22 * ((y 0).val / 64) + (y 1).val / 128) / 22 % 4) ≤ (y 0).val ∧ (y 0).val < 64 * ((22 * ((y 0).val / 64) + (y 1).val / 128) / 22 % 4) + 64
      omega
    · show 128 * ((22 * ((y 0).val / 64) + (y 1).val / 128) % 22) ≤ (y 1).val ∧ (y 1).val < 128 * ((22 * ((y 0).val / 64) + (y 1).val / 128) % 22) + 128
      omega

/-- The finished rows of a step, from the buffer it convolves. -/
theorem y_read (M : Ubuf) (f f' : M.view.ty.Contents (Elt Ideal)) (A : Memref sig .tc .vmem S256x2816 .bf16)
    (T : Memref sig .tc .vmem S3x5632 .f32) (hT : T.IsWhole) (B : Memref sig .tc .vmem S1x5632 .f32) (hB : B.IsWhole)
    (fl : BitVec 32) (hfl : fl = 0#32) (x : Vec Ideal S256x1024 .f32) (cw : Vec Ideal S3x5632 .f32) (cb : Vec Ideal S1x5632 .f32)
    (wd : Vec Ideal S2816x1024 .bf16) (g : Vec Ideal S1x1024 .f32)
    (h : ∀ j q l, j < 44 → q < 264 → l < 128 → 8 ≤ q → at3 (a := 44) (b := 264) (c := 128) (M.view.read (Elt Ideal) f) j q l
      = at3 (a := 44) (b := 264) (c := 128) (M.view.read (Elt Ideal) f') j q l) (i : S256x1024.Idx) :
    yV (F := Ideal) x (A.view.readCov (pieces (actP (F := Ideal) (actV (F := Ideal) fl (tapL (F := Ideal) T (hT.unread cw)) (biasL (F := Ideal) B (hB.unread cb))
        (fun q rb j => ubAt (F := Ideal) M f f' q rb j))) 88) (Rect.unit (s := S256x2816) ![0, 0] S256x2816.size inb_S256x2816_S256x2816_0_0).toLoadRect) wd g i
      = rms (down (at2 (a := 256) (b := 1024) x (i 0).val) (act (at2 (a := 3) (b := 5632) cw) (at2 (a := 1) (b := 5632) cb 0)
          (rowsOf (at3 (a := 44) (b := 264) (c := 128) (M.view.read (Elt Ideal) f'))) (i 0).val) (at2 (a := 2816) (b := 1024) wd))
          (at2 (a := 1) (b := 1024) g 0) (i 1).val := by
  refine yV_at _ _ _ _ i _ _ rfl rfl _ fun y hy => ?_
  refine (act_read A (at2 (a := 3) (b := 5632) cw) (at2 (a := 1) (b := 5632) cb 0) (rowsOf (at3 (a := 44) (b := 264) (c := 128) (M.view.read (Elt Ideal) f'))) _
    (fun k hk z => actV_at _ _ _ fl _ _ _ hfl (fun q j y hq hj => tapL_at T hT cw q j hq hj y) (fun j y hj => biasL_at B hB cb j hj y)
      (fun q rb j y hq hrb hj => ubAt_at M f f' h q rb j y hq hrb hj) k hk z) y).trans ?_
  rw [hy]

/-! ## The carried tail -/

theorem last_read (O : Memref sig .tc .vmem S1x2x5632 .f32) (e : O.view.ty.Contents (Elt Ideal)) (M : Ubuf) (f : M.view.ty.Contents (Elt Ideal))
    (i : S1x2x5632.Idx) :
    O.view.read (Elt Ideal) (O.view.writes (Elt Ideal) e (pieces (lastP (rowsL (F := Ideal) M f)) 44)) i
      = rowsOf (at3 (a := 44) (b := 264) (c := 128) (M.view.read (Elt Ideal) f)) (256 + (i 1).val) (i 2).val := by
  have i0 : (i 0).val < 1 := (i 0).isLt
  have i1 : (i 1).val < 2 := (i 1).isLt
  have i2 : (i 2).val < 5632 := (i 2).isLt
  refine (View.read_writes_apply_of_pieces (v := O.view) (f := e)
    (G := fun i : S1x2x5632.Idx => rowsOf (at3 (a := 44) (b := 264) (c := 128) (M.view.read (Elt Ideal) f)) (256 + (i 1).val) (i 2).val) _ ?_ i ?_).trans rfl
  · intro p hp y
    obtain ⟨k, hk, rfl⟩ := (mem_pieces _ _ _).mp hp
    have l2 : (y 2).val < 128 := (y 2).isLt
    have e1 : ((lastP (rowsL (F := Ideal) M f) k).1.emb y 1).val = (y 1).val := (emb_unit _ _ (inb_last k) y 1).trans (Nat.zero_add _)
    have e2 : ((lastP (rowsL (F := Ideal) M f) k).1.emb y 2).val = 128 * k + (y 2).val := (emb_unit _ _ (inb_last k) y 2).trans (by
      show 128 * (k % 44) + (y 2).val = _; rw [Nat.mod_eq_of_lt hk])
    show shapeCast S1x2x128 (shapeCast S2x128 (rowsL (F := Ideal) M f k) shapeCasts_S1x2x128_S2x128) shapeCasts_S2x128_S1x2x128 y = rowsOf _ _ _
    rw [e1, e2]
    refine (congrFun (shapeCast_shapeCast _ _ _) y).trans ((rowsL_at M f k hk y).trans ?_)
    unfold rowsOf
    rw [show (128 * k + (y 2).val) / 128 = k by omega, show (128 * k + (y 2).val) % 128 = (y 2).val by omega,
      show 256 + (y 1).val + 6 = 262 + (y 1).val by omega]
  · refine ⟨_, (mem_pieces _ _ _).mpr ⟨(i 2).val / 128, by omega, rfl⟩, (Rect.mem_set_unit (inb := inb_last ((i 2).val / 128))).mpr (fun_three ?_ ?_ ?_)⟩
    · show 0 ≤ (i 0).val ∧ (i 0).val < 0 + 1; omega
    · show 0 ≤ (i 1).val ∧ (i 1).val < 0 + 2; omega
    · show 128 * ((i 2).val / 128 % 44) ≤ (i 2).val ∧ (i 2).val < 128 * ((i 2).val / 128 % 44) + 128; omega

end Cert.KernelIdeal.Body

end
-- ==== Proof.ListA.lean ====
/- Case A of a step: the lists of stores its run ends with are the lists of forms of `Form`. -/
module

public import proofs.«01_k».proof.Proof.RunA
public import proofs.«01_k».proof.Proof.Form

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F]
variable (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S1x2x5632 .f32) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S256x1024 .f32) (harg11 : arg11.IsWhole)
  (arg12 : Memref sig .tc .vmem S1x2x5632 .f32) (harg12 : arg12.IsWhole)
  (arg13 : Memref sig .tc .vmem S44x264x128 .f32) (harg13 : arg13.IsWhole)
  (arg14 : Memref sig .tc .vmem S44x264x128 .f32) (harg14 : arg14.IsWhole)
  (arg15 : Memref sig .tc .vmem S256x2816 .bf16) (harg15 : arg15.IsWhole)
  (hc0 : cond0_0 i) (hc1 : cond0_1 i) (hc2 : cond0_2 i) (hc3 : ¬cond0_3 i) (hc4 : ¬cond0_4 i)
  (x0 : Vec F S1 .i32)
  (x1 : Vec F S256x1024 .f32)
  (x2 : Vec F S256x1024 .f32)
  (x3 : Vec F S1x1024 .f32)
  (x4 : Vec F S1024x5632 .bf16)
  (x5 : Vec F S1x2x5632 .f32)
  (x6 : Vec F S3x5632 .f32)
  (x7 : Vec F S1x5632 .f32)
  (x8 : Vec F S2816x1024 .bf16)
  (x9 : Vec F S1x1024 .f32)

theorem next_A :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9).2.2.1 = carryP arg14 (arg14.view.writes (Elt F) arg14.view.junk (pieces (tailP (lastL arg6 (harg6.unread x5))) 44 ++ [zeroP])) :: (pieces (stageP (fullL arg2 (harg2.unread x1)) (gainL arg4 (harg4.unread x3)) (upL arg5 (harg5.unread x4))) 44 ++ [zeroP]) := by
  sl_kernel_rfl

end Cert.KernelIdeal.Body

end
-- ==== Proof.ListB.lean ====
/- Case B of a step: the lists of stores its run ends with are the lists of forms of `Form`. -/
module

public import proofs.«01_k».proof.Proof.RunB
public import proofs.«01_k».proof.Proof.Form

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F]
variable (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S1x2x5632 .f32) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S256x1024 .f32) (harg11 : arg11.IsWhole)
  (arg12 : Memref sig .tc .vmem S1x2x5632 .f32) (harg12 : arg12.IsWhole)
  (arg13 : Memref sig .tc .vmem S44x264x128 .f32) (harg13 : arg13.IsWhole)
  (arg14 : Memref sig .tc .vmem S44x264x128 .f32) (harg14 : arg14.IsWhole)
  (arg15 : Memref sig .tc .vmem S256x2816 .bf16) (harg15 : arg15.IsWhole)
  (hc0 : ¬cond0_0 i) (hc1 : ¬cond0_1 i) (hc4 : cond0_4 i) (hc5 : cond0_5 i) (hc6 : ¬cond0_6 i)
  (x0 : Vec F S1 .i32)
  (x1 : Vec F S256x1024 .f32)
  (x2 : Vec F S256x1024 .f32)
  (x3 : Vec F S1x1024 .f32)
  (x4 : Vec F S1024x5632 .bf16)
  (x5 : Vec F S1x2x5632 .f32)
  (x6 : Vec F S3x5632 .f32)
  (x7 : Vec F S1x5632 .f32)
  (x8 : Vec F S2816x1024 .bf16)
  (x9 : Vec F S1x1024 .f32)
  (xs0 : Vec F S44x264x128 .f32)

theorem next_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1 = carryP arg13 (harg13.unread xs0) :: pieces (stageP (fullL arg2 (harg2.unread x1)) (gainL arg4 (harg4.unread x3)) (upL arg5 (harg5.unread x4))) 44 := by
  sl_kernel_rfl

theorem old_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.1 = pieces (tailP (lastL arg6 (harg6.unread x5))) 44 := by
  sl_kernel_rfl

theorem act_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.2.1 = pieces (actP (actV (flagL arg1 (harg1.unread x0)) (tapL arg7 (harg7.unread x6)) (biasL arg8 (harg8.unread x7)) (fun q rb j => ubAt arg13 (harg13.unread xs0) (arg13.view.writes (Elt F) (harg13.unread xs0) (pieces (tailP (lastL arg6 (harg6.unread x5))) 44)) q rb j))) 88 := by
  sl_kernel_rfl

theorem y_B :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1 = [yP (yV (fullL arg3 (harg3.unread x2)) (arg15.view.readCov (pieces (actP (actV (flagL arg1 (harg1.unread x0)) (tapL arg7 (harg7.unread x6)) (biasL arg8 (harg8.unread x7)) (fun q rb j => ubAt arg13 (harg13.unread xs0) (arg13.view.writes (Elt F) (harg13.unread xs0) (pieces (tailP (lastL arg6 (harg6.unread x5))) 44)) q rb j))) 88) (Rect.unit (s := S256x2816) ![0, 0] S256x2816.size inb_S256x2816_S256x2816_0_0).toLoadRect) (downL arg9 (harg9.unread x8)) (gainL arg10 (harg10.unread x9)))] := by
  sl_kernel_rfl

end Cert.KernelIdeal.Body

end
-- ==== Proof.ListC.lean ====
/- Case C of a step: the lists of stores its run ends with are the lists of forms of `Form`. -/
module

public import proofs.«01_k».proof.Proof.RunC
public import proofs.«01_k».proof.Proof.Form

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F]
variable (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S1x2x5632 .f32) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S256x1024 .f32) (harg11 : arg11.IsWhole)
  (arg12 : Memref sig .tc .vmem S1x2x5632 .f32) (harg12 : arg12.IsWhole)
  (arg13 : Memref sig .tc .vmem S44x264x128 .f32) (harg13 : arg13.IsWhole)
  (arg14 : Memref sig .tc .vmem S44x264x128 .f32) (harg14 : arg14.IsWhole)
  (arg15 : Memref sig .tc .vmem S256x2816 .bf16) (harg15 : arg15.IsWhole)
  (hc0 : ¬cond0_0 i) (hc1 : cond0_1 i) (hc2 : ¬cond0_2 i) (hc3 : ¬cond0_3 i) (hc4 : ¬cond0_4 i)
  (x0 : Vec F S1 .i32)
  (x1 : Vec F S256x1024 .f32)
  (x2 : Vec F S256x1024 .f32)
  (x3 : Vec F S1x1024 .f32)
  (x4 : Vec F S1024x5632 .bf16)
  (x5 : Vec F S1x2x5632 .f32)
  (x6 : Vec F S3x5632 .f32)
  (x7 : Vec F S1x5632 .f32)
  (x8 : Vec F S2816x1024 .bf16)
  (x9 : Vec F S1x1024 .f32)
  (xs1 : Vec F S44x264x128 .f32)

theorem next_C :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1 = carryP arg14 (harg14.unread xs1) :: pieces (stageP (fullL arg2 (harg2.unread x1)) (gainL arg4 (harg4.unread x3)) (upL arg5 (harg5.unread x4))) 44 := by
  sl_kernel_rfl

theorem act_C :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.2.2.1 = pieces (actP (actV (flagL arg1 (harg1.unread x0)) (tapL arg7 (harg7.unread x6)) (biasL arg8 (harg8.unread x7)) (fun q rb j => ubAt arg14 (harg14.unread xs1) (harg14.unread xs1) q rb j))) 88 := by
  sl_kernel_rfl

theorem y_C :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1 = [yP (yV (fullL arg3 (harg3.unread x2)) (arg15.view.readCov (pieces (actP (actV (flagL arg1 (harg1.unread x0)) (tapL arg7 (harg7.unread x6)) (biasL arg8 (harg8.unread x7)) (fun q rb j => ubAt arg14 (harg14.unread xs1) (harg14.unread xs1) q rb j))) 88) (Rect.unit (s := S256x2816) ![0, 0] S256x2816.size inb_S256x2816_S256x2816_0_0).toLoadRect) (downL arg9 (harg9.unread x8)) (gainL arg10 (harg10.unread x9)))] := by
  sl_kernel_rfl

end Cert.KernelIdeal.Body

end
-- ==== Proof.ListD.lean ====
/- Case D of a step: the lists of stores its run ends with are the lists of forms of `Form`. -/
module

public import proofs.«01_k».proof.Proof.RunD
public import proofs.«01_k».proof.Proof.Form

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F]
variable (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S1x2x5632 .f32) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S256x1024 .f32) (harg11 : arg11.IsWhole)
  (arg12 : Memref sig .tc .vmem S1x2x5632 .f32) (harg12 : arg12.IsWhole)
  (arg13 : Memref sig .tc .vmem S44x264x128 .f32) (harg13 : arg13.IsWhole)
  (arg14 : Memref sig .tc .vmem S44x264x128 .f32) (harg14 : arg14.IsWhole)
  (arg15 : Memref sig .tc .vmem S256x2816 .bf16) (harg15 : arg15.IsWhole)
  (hc0 : ¬cond0_0 i) (hc1 : ¬cond0_1 i) (hc4 : cond0_4 i) (hc5 : ¬cond0_5 i) (hc6 : ¬cond0_6 i)
  (x0 : Vec F S1 .i32)
  (x1 : Vec F S256x1024 .f32)
  (x2 : Vec F S256x1024 .f32)
  (x3 : Vec F S1x1024 .f32)
  (x4 : Vec F S1024x5632 .bf16)
  (x5 : Vec F S1x2x5632 .f32)
  (x6 : Vec F S3x5632 .f32)
  (x7 : Vec F S1x5632 .f32)
  (x8 : Vec F S2816x1024 .bf16)
  (x9 : Vec F S1x1024 .f32)
  (xs0 : Vec F S44x264x128 .f32)

theorem next_D :
    (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.1 = carryP arg13 (harg13.unread xs0) :: pieces (stageP (fullL arg2 (harg2.unread x1)) (gainL arg4 (harg4.unread x3)) (upL arg5 (harg5.unread x4))) 44 := by
  sl_kernel_rfl

theorem act_D :
    (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).2.2.2.2.1 = pieces (actP (actV (flagL arg1 (harg1.unread x0)) (tapL arg7 (harg7.unread x6)) (biasL arg8 (harg8.unread x7)) (fun q rb j => ubAt arg13 (harg13.unread xs0) (harg13.unread xs0) q rb j))) 88 := by
  sl_kernel_rfl

theorem y_D :
    (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs0).1 = [yP (yV (fullL arg3 (harg3.unread x2)) (arg15.view.readCov (pieces (actP (actV (flagL arg1 (harg1.unread x0)) (tapL arg7 (harg7.unread x6)) (biasL arg8 (harg8.unread x7)) (fun q rb j => ubAt arg13 (harg13.unread xs0) (harg13.unread xs0) q rb j))) 88) (Rect.unit (s := S256x2816) ![0, 0] S256x2816.size inb_S256x2816_S256x2816_0_0).toLoadRect) (downL arg9 (harg9.unread x8)) (gainL arg10 (harg10.unread x9)))] := by
  sl_kernel_rfl

end Cert.KernelIdeal.Body

end
-- ==== Proof.ListE.lean ====
/- Case E of a step: the lists of stores its run ends with are the lists of forms of `Form`. -/
module

public import proofs.«01_k».proof.Proof.RunE
public import proofs.«01_k».proof.Proof.Form

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable {F : FTy → Type} [FloatOps F]
variable (c : Dev nD) (i : grid0.Coords)
  (arg1 : Memref sig .tc .smem S1 .i32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S1x2x5632 .f32) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S256x1024 .f32) (harg11 : arg11.IsWhole)
  (arg12 : Memref sig .tc .vmem S1x2x5632 .f32) (harg12 : arg12.IsWhole)
  (arg13 : Memref sig .tc .vmem S44x264x128 .f32) (harg13 : arg13.IsWhole)
  (arg14 : Memref sig .tc .vmem S44x264x128 .f32) (harg14 : arg14.IsWhole)
  (arg15 : Memref sig .tc .vmem S256x2816 .bf16) (harg15 : arg15.IsWhole)
  (hc0 : ¬cond0_0 i) (hc1 : cond0_1 i) (hc2 : ¬cond0_2 i) (hc3 : cond0_3 i) (hc4 : ¬cond0_4 i)
  (x0 : Vec F S1 .i32)
  (x1 : Vec F S256x1024 .f32)
  (x2 : Vec F S256x1024 .f32)
  (x3 : Vec F S1x1024 .f32)
  (x4 : Vec F S1024x5632 .bf16)
  (x5 : Vec F S1x2x5632 .f32)
  (x6 : Vec F S3x5632 .f32)
  (x7 : Vec F S1x5632 .f32)
  (x8 : Vec F S2816x1024 .bf16)
  (x9 : Vec F S1x1024 .f32)
  (xs1 : Vec F S44x264x128 .f32)

theorem next_E :
    (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.1 = carryP arg14 (harg14.unread xs1) :: pieces (stageP (fullL arg2 (harg2.unread x1)) (gainL arg4 (harg4.unread x3)) (upL arg5 (harg5.unread x4))) 44 := by
  sl_kernel_rfl

theorem act_E :
    (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.2.2.2.1 = pieces (actP (actV (flagL arg1 (harg1.unread x0)) (tapL arg7 (harg7.unread x6)) (biasL arg8 (harg8.unread x7)) (fun q rb j => ubAt arg14 (harg14.unread xs1) (harg14.unread xs1) q rb j))) 88 := by
  sl_kernel_rfl

theorem y_E :
    (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).1 = [yP (yV (fullL arg3 (harg3.unread x2)) (arg15.view.readCov (pieces (actP (actV (flagL arg1 (harg1.unread x0)) (tapL arg7 (harg7.unread x6)) (biasL arg8 (harg8.unread x7)) (fun q rb j => ubAt arg14 (harg14.unread xs1) (harg14.unread xs1) q rb j))) 88) (Rect.unit (s := S256x2816) ![0, 0] S256x2816.size inb_S256x2816_S256x2816_0_0).toLoadRect) (downL arg9 (harg9.unread x8)) (gainL arg10 (harg10.unread x9)))] := by
  sl_kernel_rfl

theorem last_E :
    (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs1).2.1 = pieces (lastP (rowsL arg14 (harg14.unread xs1))) 44 := by
  sl_kernel_rfl

end Cert.KernelIdeal.Body

end
-- ==== Proof.Cases.lean ====
/- What each case of a step leaves: the next buffer, the finished rows and the carried tail, from its input blocks and
   the buffer the point before left. -/
module

public import proofs.«01_k».proof.Proof.Outs
public import proofs.«01_k».proof.Proof.Reads
public import proofs.«01_k».proof.Proof.ListA
public import proofs.«01_k».proof.Proof.ListB
public import proofs.«01_k».proof.Proof.ListC
public import proofs.«01_k».proof.Proof.ListD
public import proofs.«01_k».proof.Proof.ListE

@[expose] public section

noncomputable section

namespace Cert.KernelIdeal.Body

open Cert.KernelIdeal.Gen Cert.Ffn
open Idealize.ShloMosaic Idealize.ShloMosaic.TcCoe Idealize.ShloMosaic.ValueIdx Idealize.SL.Sem

/-- A block of finished rows stored whole reads back. -/
theorem one_read (v : View sig .tc .vmem S256x1024 .f32) (f : v.ty.Contents (Elt Ideal)) (y : FVec Ideal S256x1024 .f32) (i : S256x1024.Idx) :
    v.read (Elt Ideal) (v.writes (Elt Ideal) f [yP (F := Ideal) y]) i = y i := by
  refine View.read_writes_apply_of_pieces (v := v) (f := f) (G := y) _ ?_ i ?_
  · intro p hp z
    obtain rfl := List.mem_singleton.mp hp
    exact congrArg y (funext fun a => Fin.ext (((emb_unit (s := S256x1024) ![0, 0] S256x1024.size inb_S256x1024_S256x1024_0_0 z a).trans (zero_off a _)).symm))
  · exact ⟨_, List.mem_singleton.mpr rfl, (Rect.mem_set_unit (inb := inb_S256x1024_S256x1024_0_0)).mpr fun a =>
      ⟨by rw [show (![0, 0] : Fin 2 → ℕ) a = 0 from zero_off a 0]; exact Nat.zero_le _,
       by rw [show (![0, 0] : Fin 2 → ℕ) a = 0 from zero_off a 0, Nat.zero_add]; exact (i a).isLt⟩⟩

variable {c : Dev nD} {i : grid0.Coords}
  {arg1 : Memref sig .tc .smem S1 .i32} {harg1 : arg1.IsWhole}
  {arg2 : Memref sig .tc .vmem S256x1024 .f32} {harg2 : arg2.IsWhole}
  {arg3 : Memref sig .tc .vmem S256x1024 .f32} {harg3 : arg3.IsWhole}
  {arg4 : Memref sig .tc .vmem S1x1024 .f32} {harg4 : arg4.IsWhole}
  {arg5 : Memref sig .tc .vmem S1024x5632 .bf16} {harg5 : arg5.IsWhole}
  {arg6 : Memref sig .tc .vmem S1x2x5632 .f32} {harg6 : arg6.IsWhole}
  {arg7 : Memref sig .tc .vmem S3x5632 .f32} {harg7 : arg7.IsWhole}
  {arg8 : Memref sig .tc .vmem S1x5632 .f32} {harg8 : arg8.IsWhole}
  {arg9 : Memref sig .tc .vmem S2816x1024 .bf16} {harg9 : arg9.IsWhole}
  {arg10 : Memref sig .tc .vmem S1x1024 .f32} {harg10 : arg10.IsWhole}
  {arg11 : Memref sig .tc .vmem S256x1024 .f32} {harg11 : arg11.IsWhole}
  {arg12 : Memref sig .tc .vmem S1x2x5632 .f32} {harg12 : arg12.IsWhole}
  {arg13 : Memref sig .tc .vmem S44x264x128 .f32} {harg13 : arg13.IsWhole}
  {arg14 : Memref sig .tc .vmem S44x264x128 .f32} {harg14 : arg14.IsWhole}
  {arg15 : Memref sig .tc .vmem S256x2816 .bf16} {harg15 : arg15.IsWhole}
  {x0 : Vec Ideal S1 .i32} {x1 : Vec Ideal S256x1024 .f32} {x2 : Vec Ideal S256x1024 .f32} {x3 : Vec Ideal S1x1024 .f32} {x4 : Vec Ideal S1024x5632 .bf16} {x5 : Vec Ideal S1x2x5632 .f32} {x6 : Vec Ideal S3x5632 .f32} {x7 : Vec Ideal S1x5632 .f32} {x8 : Vec Ideal S2816x1024 .bf16} {x9 : Vec Ideal S1x1024 .f32}
  {xs : Vec Ideal S44x264x128 .f32}

section
variable {hc0 : cond0_0 i} {hc1 : cond0_1 i} {hc2 : cond0_2 i} {hc3 : ¬cond0_3 i} {hc4 : ¬cond0_4 i}

theorem buf_A (j q l : ℕ) (hj : j < 44) (hq : q < 264) (hl : l < 128) (h8 : 8 ≤ q) :
    at3 (a := 44) (b := 264) (c := 128) (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9) j q l
      = up (at2 (a := 256) (b := 1024) x1 (q - 8)) (at2 (a := 1) (b := 1024) x3 0) (at2 (a := 1024) (b := 5632) x4) (128 * j + l) := by
  unfold sout0_A_0
  rw [next_A, fullL_eq, gainL_eq, ← List.cons_append, View.writes_append]
  refine (next_read scM0_0 arg14 _ _ arg5 harg5 x1 x3 x4 j q l hj hq hl).trans ?_
  unfold next
  rw [if_neg (by omega)]

end

section
variable {hc0 : ¬cond0_0 i} {hc1 : ¬cond0_1 i} {hc4 : cond0_4 i} {hc5 : cond0_5 i} {hc6 : ¬cond0_6 i}

theorem buf_B (j q l : ℕ) (hj : j < 44) (hq : q < 264) (hl : l < 128) :
    at3 (a := 44) (b := 264) (c := 128) (sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs) j q l
      = next (at3 (a := 44) (b := 264) (c := 128) xs) (at2 (a := 256) (b := 1024) x1) (at2 (a := 1) (b := 1024) x3 0) (at2 (a := 1024) (b := 5632) x4) j q l := by
  unfold sout0_B_1
  rw [next_B, fullL_eq, gainL_eq]
  refine (next_read scM0_1 arg13 _ _ arg5 harg5 x1 x3 x4 j q l hj hq hl).trans ?_
  rw [harg13.read_unread xs]

theorem y_at_B (hx : ∀ y, x0 y = 0#32) : ∃ u : ℕ → ℕ → ℕ → EReal,
    (∀ j q l, j < 44 → q < 264 → l < 128 → u j q l = put (at3 (a := 44) (b := 264) (c := 128) xs) (at3 (a := 1) (b := 2) (c := 5632) x5 0) j q l)
    ∧ ∀ k : S256x1024.Idx, out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs k
      = rms (down (at2 (a := 256) (b := 1024) x2 (k 0).val) (act (at2 (a := 3) (b := 5632) x6) (at2 (a := 1) (b := 5632) x7 0) (rowsOf u) (k 0).val) (at2 (a := 2816) (b := 1024) x8)) (at2 (a := 1) (b := 1024) x9 0) (k 1).val := by
  refine ⟨at3 (a := 44) (b := 264) (c := 128) (arg13.view.read (Elt Ideal) (arg13.view.writes (Elt Ideal) (harg13.unread xs) (pieces (tailP (lastL (F := Ideal) arg6 (harg6.unread x5))) 44))),
    fun j q l hj hq hl => ?_, fun k => ?_⟩
  · rw [put_read arg13 arg13 _ arg6 harg6 x5 j q l hj hq hl, harg13.read_unread xs]
  · unfold out0_B_10
    rw [y_B, one_read, fullL_eq, gainL_eq, downL_eq]
    refine y_read arg13 _ _ arg15 arg7 harg7 arg8 harg8 _ (flagL_eq arg1 harg1 x0 hx) x2 x6 x7 x8 x9 (fun j q l hj hq hl h8 => ?_) k
    rw [put_read arg13 arg13 _ arg6 harg6 x5 j q l hj hq hl]
    unfold put
    rw [if_neg (by omega)]

end

section
variable {hc0 : ¬cond0_0 i} {hc1 : cond0_1 i} {hc2 : ¬cond0_2 i} {hc3 : ¬cond0_3 i} {hc4 : ¬cond0_4 i}

theorem buf_C (j q l : ℕ) (hj : j < 44) (hq : q < 264) (hl : l < 128) :
    at3 (a := 44) (b := 264) (c := 128) (sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs) j q l
      = next (at3 (a := 44) (b := 264) (c := 128) xs) (at2 (a := 256) (b := 1024) x1) (at2 (a := 1) (b := 1024) x3 0) (at2 (a := 1024) (b := 5632) x4) j q l := by
  unfold sout0_C_0
  rw [next_C, fullL_eq, gainL_eq]
  refine (next_read scM0_0 arg14 _ _ arg5 harg5 x1 x3 x4 j q l hj hq hl).trans ?_
  rw [harg14.read_unread xs]

theorem y_at_C (hx : ∀ y, x0 y = 0#32) (k : S256x1024.Idx) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs k
      = rms (down (at2 (a := 256) (b := 1024) x2 (k 0).val) (act (at2 (a := 3) (b := 5632) x6) (at2 (a := 1) (b := 5632) x7 0) (rowsOf (at3 (a := 44) (b := 264) (c := 128) xs)) (k 0).val) (at2 (a := 2816) (b := 1024) x8)) (at2 (a := 1) (b := 1024) x9 0) (k 1).val := by
  unfold out0_C_10
  rw [y_C, one_read, fullL_eq, gainL_eq, downL_eq]
  refine (y_read arg14 _ _ arg15 arg7 harg7 arg8 harg8 _ (flagL_eq arg1 harg1 x0 hx) x2 x6 x7 x8 x9 (fun j q l hj hq hl h8 => rfl) k).trans ?_
  rw [harg14.read_unread xs]

end

section
variable {hc0 : ¬cond0_0 i} {hc1 : ¬cond0_1 i} {hc4 : cond0_4 i} {hc5 : ¬cond0_5 i} {hc6 : ¬cond0_6 i}

theorem buf_D (j q l : ℕ) (hj : j < 44) (hq : q < 264) (hl : l < 128) :
    at3 (a := 44) (b := 264) (c := 128) (sout0_D_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs) j q l
      = next (at3 (a := 44) (b := 264) (c := 128) xs) (at2 (a := 256) (b := 1024) x1) (at2 (a := 1) (b := 1024) x3 0) (at2 (a := 1024) (b := 5632) x4) j q l := by
  unfold sout0_D_1
  rw [next_D, fullL_eq, gainL_eq]
  refine (next_read scM0_1 arg13 _ _ arg5 harg5 x1 x3 x4 j q l hj hq hl).trans ?_
  rw [harg13.read_unread xs]

theorem y_at_D (hx : ∀ y, x0 y = 0#32) (k : S256x1024.Idx) : out0_D_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc4 hc5 hc6 x0 x1 x2 x3 x4 x5 x6 x7 x8 x9 xs k
      = rms (down (at2 (a := 256) (b := 1024) x2 (k 0).val) (act (at2 (a := 3) (b := 5632) x6) (at2 (a := 1) (b := 5632) x7 0) (rowsOf (at3 (a := 44) (b := 264) (c := 128) xs)) (k 0).val) (at2 (a := 2816) (b := 1024) x8)) (at2 (a := 1) (b := 1024) x9 0) (k 1).val := by
  unfold out0_D_10
  rw [y_D, one_read, fullL_eq, gainL_eq, downL_eq]
  refine (y_read arg13 _ _ arg15 arg7 harg7 arg8 harg8 _ (flagL_eq arg1 harg1 x0 hx) x2 x6 x7 x8 x9 (fun j q l hj hq hl h8 => rfl) k).trans ?_
  rw [harg13.read_unread xs]

end

section
variable {hc0 : ¬cond0_0 i} {hc1 : cond0_1 i} {hc2 : ¬cond0_2 i} {hc3 : cond0_3 i} {hc4 : ¬cond0_4 i}

theorem buf_E (j q l : ℕ) (hj : j < 44) (hq : q < 264) (hl : l < 128) :
    at3 (a := 44) (b := 264) (c := 128) (sout0_E_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs) j q l
      = next (at3 (a := 44) (b := 264) (c := 128) xs) (at2 (a := 256) (b := 1024) x1) (at2 (a := 1) (b := 1024) x3 0) (at2 (a := 1024) (b := 5632) x4) j q l := by
  unfold sout0_E_0
  rw [next_E, fullL_eq, gainL_eq]
  refine (next_read scM0_0 arg14 _ _ arg5 harg5 x1 x3 x4 j q l hj hq hl).trans ?_
  rw [harg14.read_unread xs]

theorem y_at_E (hx : ∀ y, x0 y = 0#32) (k : S256x1024.Idx) : out0_E_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs k
      = rms (down (at2 (a := 256) (b := 1024) x2 (k 0).val) (act (at2 (a := 3) (b := 5632) x6) (at2 (a := 1) (b := 5632) x7 0) (rowsOf (at3 (a := 44) (b := 264) (c := 128) xs)) (k 0).val) (at2 (a := 2816) (b := 1024) x8)) (at2 (a := 1) (b := 1024) x9 0) (k 1).val := by
  unfold out0_E_10
  rw [y_E, one_read, fullL_eq, gainL_eq, downL_eq]
  refine (y_read arg14 _ _ arg15 arg7 harg7 arg8 harg8 _ (flagL_eq arg1 harg1 x0 hx) x2 x6 x7 x8 x9 (fun j q l hj hq hl h8 => rfl) k).trans ?_
  rw [harg14.read_unread xs]

theorem last_at_E (k : S1x2x5632.Idx) : out0_E_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs k
      = rowsOf (at3 (a := 44) (b := 264) (c := 128) xs) (256 + (k 1).val) (k 2).val := by
  unfold out0_E_11
  rw [last_E]
  refine (last_read (Memref.whole cc0_stg11_0 : Memref sig .tc .vmem S1x2x5632 .f32) _ arg14 _ k).trans ?_
  rw [harg14.read_unread xs]

end

end Cert.KernelIdeal.Body

end
-- ==== Proof.Blocks.lean ====
/- The blocks the windows hand a step at each grid point, as the program's arguments read at row and column numbers. -/
module

public import proofs.«01_k».proof.Proof.Outs
public import proofs.«01_k».proof.Proof.Spec
public import Idealize.ShloMosaic.Lib.Pipeline.ValueKit.Geometry
public import Idealize.ShloMosaic.Lib.Claim

@[expose] public section

noncomputable section

namespace Cert.KernelIdeal.Body

open Cert.KernelIdeal.Gen Cert.Ffn
open Idealize.ShloMosaic Idealize.ShloMosaic.TcCoe Idealize.ShloMosaic.ValueIdx Idealize.SL.Sem

variable (m : (l : Loc nD τ sig) → Buf (Elt Ideal) l)

/-- Dropping a leading unit axis reads row `0` of it. -/
theorem drop_unit {b d : ℕ} (v : (⟨3, ![1, b, d]⟩ : Shape).Idx → EReal) (h : (⟨3, ![1, b, d]⟩ : Shape).ShapeCasts ⟨2, ![b, d]⟩)
    (E : (⟨2, ![b, d]⟩ : Shape).Idx) : shapeCast ⟨2, ![b, d]⟩ v h E = at3 v 0 (E 0).val (E 1).val := by
  rw [shapeCast_dropUnit_apply ![b, d] v h E]
  exact eq_at3 v _ _ _ _ rfl rfl rfl

/-- Adding a leading unit axis to a vector. -/
theorem add_unit {d : ℕ} (v : (⟨1, ![d]⟩ : Shape).Idx → EReal) (h : (⟨1, ![d]⟩ : Shape).ShapeCasts ⟨2, ![1, d]⟩)
    (E : (⟨2, ![1, d]⟩ : Shape).Idx) : shapeCast ⟨2, ![1, d]⟩ v h E = at1 v (E 1).val := by
  rw [shapeCast_addUnit_apply ![d] v h E]
  exact eq_at1 v _ _ rfl

/-- A vector made of a row and made a row again is the row. -/
theorem row_again {d : ℕ} (v : (⟨2, ![1, d]⟩ : Shape).Idx → EReal) (h : (⟨2, ![1, d]⟩ : Shape).ShapeCasts ⟨1, ![d]⟩)
    (h' : (⟨1, ![d]⟩ : Shape).ShapeCasts ⟨2, ![1, d]⟩) (E : (⟨2, ![1, d]⟩ : Shape).Idx) :
    shapeCast ⟨2, ![1, d]⟩ (shapeCast ⟨1, ![d]⟩ v h) h' E = at2 v 0 (E 1).val :=
  (congrFun (shapeCast_shapeCast v h h') E).trans (eq_at2 v E 0 _ (by have := (E 0).isLt; change (E 0).val < 1 at this; omega) rfl)

theorem idx_1 : ∀ t : Fin cfg0.N, win0_1.index t = ![min t.val 63, 0] := (by decide +kernel : ∀ t : Fin grid0.N, _)
theorem idx_2 : ∀ t : Fin cfg0.N, win0_2.index t = ![t.val - 1, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![t.val - 1, 0] := (by decide +kernel : ∀ t : Fin grid0.N, _)
theorem idx_11 : ∀ t : Fin cfg0.N, win0_11.index t = ![(t.val - 1) / 8, 0, 0] := (by decide +kernel : ∀ t : Fin grid0.N, _)

theorem blk_0 (c : Dev nD) (t : Fin cfg0.N) (y : S1.Idx) : iblk m c 0 t y = 0#32 := by
  blk_simp [iblk]
  entry_read
  rfl

theorem blk_1 (c : Dev nD) (t : Fin cfg0.N) (y : (⟨2, ![256, 1024]⟩ : Shape).Idx) :
    iblk m c 1 t y = at2 (a := 16384) (b := 1024) (m ((c : Thread nD τ).loc main_arg0)) (256 * min t.val 63 + (y 0).val) (y 1).val := by
  blk_simp [iblk]
  rw [V_main_arg0]
  refine eq_at2 (a := 16384) (b := 1024) _ _ _ _ ?_ ?_
  · blk_simp [idx_1]; simp; omega
  · blk_simp [idx_1]

theorem blk_2 (c : Dev nD) (t : Fin cfg0.N) (y : (⟨2, ![256, 1024]⟩ : Shape).Idx) :
    iblk m c 2 t y = at2 (a := 16384) (b := 1024) (m ((c : Thread nD τ).loc main_arg0)) (256 * (t.val - 1) + (y 0).val) (y 1).val := by
  blk_simp [iblk]
  rw [V_main_arg0]
  refine eq_at2 (a := 16384) (b := 1024) _ _ _ _ ?_ ?_
  · blk_simp [idx_2]; simp; omega
  · blk_simp [idx_2]

theorem blk_3 (c : Dev nD) (t : Fin cfg0.N) (y : (⟨2, ![1, 1024]⟩ : Shape).Idx) :
    iblk m c 3 t y = at2 (a := 1) (b := 1024) (m ((c : Thread nD τ).loc main_arg2)) 0 (y 1).val := by
  have e0 : (((win0_3.blk t).view.emb y 0 : Fin _) : ℕ) = (y 0).val := by blk_simp [idx_3]
  have e1 : (((win0_3.blk t).view.emb y 1 : Fin _) : ℕ) = (y 1).val := by blk_simp [idx_3]
  blk_simp [iblk]
  entry_read
  refine (row_again _ _ _ _).trans ?_
  exact congrArg (at2 _ 0) e1

theorem blk_4 (c : Dev nD) (t : Fin cfg0.N) (y : (⟨2, ![1024, 5632]⟩ : Shape).Idx) :
    iblk m c 4 t y = at3 (a := 1) (b := 1024) (c := 5632) (m ((c : Thread nD τ).loc main_arg3)) 0 (y 0).val (y 1).val := by
  have e0 : (((win0_4.blk t).view.emb y 0 : Fin _) : ℕ) = (y 0).val := by blk_simp [idx_4]
  have e1 : (((win0_4.blk t).view.emb y 1 : Fin _) : ℕ) = (y 1).val := by blk_simp [idx_4]
  blk_simp [iblk]
  entry_read
  refine (drop_unit _ _ _).trans ?_
  exact congrArg₂ (at3 _ 0) e0 e1

theorem blk_6 (c : Dev nD) (t : Fin cfg0.N) (y : (⟨2, ![3, 5632]⟩ : Shape).Idx) :
    iblk m c 6 t y = at3 (a := 1) (b := 3) (c := 5632) (m ((c : Thread nD τ).loc main_arg4)) 0 (y 0).val (y 1).val := by
  have e0 : (((win0_6.blk t).view.emb y 0 : Fin _) : ℕ) = (y 0).val := by blk_simp [idx_6]
  have e1 : (((win0_6.blk t).view.emb y 1 : Fin _) : ℕ) = (y 1).val := by blk_simp [idx_6]
  blk_simp [iblk]
  entry_read
  refine (drop_unit _ _ _).trans ?_
  exact congrArg₂ (at3 _ 0) e0 e1

theorem blk_7 (c : Dev nD) (t : Fin cfg0.N) (y : (⟨2, ![1, 5632]⟩ : Shape).Idx) :
    iblk m c 7 t y = at2 (a := 1) (b := 5632) (m ((c : Thread nD τ).loc main_arg5)) 0 (y 1).val := by
  have e0 : (((win0_7.blk t).view.emb y 0 : Fin _) : ℕ) = (y 0).val := by blk_simp [idx_7]
  have e1 : (((win0_7.blk t).view.emb y 1 : Fin _) : ℕ) = (y 1).val := by blk_simp [idx_7]
  blk_simp [iblk]
  entry_read
  refine (row_again _ _ _ _).trans ?_
  exact congrArg (at2 _ 0) e1

theorem blk_8 (c : Dev nD) (t : Fin cfg0.N) (y : (⟨2, ![2816, 1024]⟩ : Shape).Idx) :
    iblk m c 8 t y = at3 (a := 1) (b := 2816) (c := 1024) (m ((c : Thread nD τ).loc main_arg6)) 0 (y 0).val (y 1).val := by
  have e0 : (((win0_8.blk t).view.emb y 0 : Fin _) : ℕ) = (y 0).val := by blk_simp [idx_8]
  have e1 : (((win0_8.blk t).view.emb y 1 : Fin _) : ℕ) = (y 1).val := by blk_simp [idx_8]
  blk_simp [iblk]
  entry_read
  refine (drop_unit _ _ _).trans ?_
  exact congrArg₂ (at3 _ 0) e0 e1

theorem blk_9 (c : Dev nD) (t : Fin cfg0.N) (y : (⟨2, ![1, 1024]⟩ : Shape).Idx) :
    iblk m c 9 t y = at1 (a := 1024) (m ((c : Thread nD τ).loc main_arg7)) (y 1).val := by
  have e0 : (((win0_9.blk t).view.emb y 0 : Fin _) : ℕ) = (y 0).val := by blk_simp [idx_9]
  have e1 : (((win0_9.blk t).view.emb y 1 : Fin _) : ℕ) = (y 1).val := by blk_simp [idx_9]
  blk_simp [iblk]
  entry_read
  refine (add_unit _ _ _).trans ?_
  exact congrArg (at1 _) e1

theorem blk_5 (c : Dev nD) (t : Fin cfg0.N) (y : (⟨3, ![1, 2, 5632]⟩ : Shape).Idx) :
    iblk m c 5 t y = at3 (a := 1) (b := 2) (c := 5632) (m ((c : Thread nD τ).loc main_arg1)) 0 (y 1).val (y 2).val := by
  blk_simp [iblk]
  rw [V_main_arg1]
  refine eq_at3 (a := 1) (b := 2) (c := 5632) _ _ _ _ _ ?_ ?_ ?_
  · blk_simp [idx_5]
  · blk_simp [idx_5]
  · blk_simp [idx_5]

end Cert.KernelIdeal.Body

end
-- ==== Proof.Steps.lean ====
/- The whole run, point by point: what the two row buffers hold after each point, and so what each point leaves of the
   finished rows and of the carried tail, as the layer's plain functions of the program's arguments. -/
module

public import proofs.«01_k».proof.Proof.Cases
public import proofs.«01_k».proof.Proof.Blocks

@[expose] public section

noncomputable section

namespace Cert.KernelIdeal.Body

open Cert.KernelIdeal.Gen Cert.Ffn
open Idealize.ShloMosaic Idealize.ShloMosaic.TcCoe Idealize.ShloMosaic.ValueIdx Idealize.SL.Sem

/-! ## Rows of the buffer as rows of the sequence -/

/-- The activation at a row only reads that row and the two after it. -/
theorem act_congr {cw : ℕ → ℕ → EReal} {cb : ℕ → EReal} {f f' : ℕ → ℕ → EReal} {q q' k : ℕ} (hk : k < 2816)
    (h : ∀ d k, d < 3 → k < 5632 → f (q + d) k = f' (q' + d) k) : act cw cb f q k = act cw cb f' q' k := by
  have e : ∀ k, k < 5632 → conv cw cb f q k = conv cw cb f' q' k := fun k hk => by
    have h0 := h 0 k (by omega) hk; have h1 := h 1 k (by omega) hk; have h2 := h 2 k (by omega) hk
    rw [Nat.add_zero, Nat.add_zero] at h0
    unfold conv; rw [h0, h1, h2]
  unfold act; rw [e k (by omega), e (k + 2816) (by omega)]

theorem down_congr {h h' : ℕ → EReal} {a a' : ℕ → EReal} {wd wd' : ℕ → ℕ → EReal} (e : h = h')
    (ea : ∀ q, q < 2816 → a q = a' q) (ew : wd = wd') : down h a wd = down h' a' wd' := by
  subst e ew
  funext k; unfold down
  exact congrArg (h k + ·) (Finset.sum_congr rfl fun q _ => by rw [ea q.val q.isLt])

section
variable (H : ℕ → ℕ → EReal) (T : ℕ → ℕ → EReal) (G : ℕ → EReal) (W : ℕ → ℕ → EReal)

/-- A buffer filled at point `n`: its own tile's projected rows, and the eight rows before them from the tile before. -/
def Filled (n : ℕ) (o : ℕ → ℕ → ℕ → EReal) : Prop := ∀ j q l, j < 44 → q < 264 → l < 128 →
  (8 ≤ q → o j q l = up (H (256 * min n 63 + (q - 8))) G W (128 * j + l))
  ∧ (q < 8 → 0 < n → o j q l = up (H (256 * (n - 1) + 248 + q)) G W (128 * j + l))

theorem filled_next (n : ℕ) (hn : n < 64) (o : ℕ → ℕ → ℕ → EReal) (ho : Filled H G W n o) (o' : ℕ → ℕ → ℕ → EReal)
    (h : ∀ j q l, j < 44 → q < 264 → l < 128 → o' j q l = next o (fun p => H (256 * min (n + 1) 63 + p)) G W j q l) :
    Filled H G W (n + 1) o' := fun j q l hj hq hl => by
  rw [h j q l hj hq hl]; unfold next
  refine ⟨fun h8 => ?_, fun h8 _ => ?_⟩
  · rw [if_neg (by omega)]
  · rw [if_pos h8, (ho j (256 + q) l hj (by omega) hl).1 (by omega)]
    rw [show 256 * min n 63 + (256 + q - 8) = 256 * (n + 1 - 1) + 248 + q by omega]

/-- The rows convolved after point `n`'s fill are the sequence's: the carried tail stands before its first tile. -/
theorem rows_full (n : ℕ) (hn : n < 64) (o u : ℕ → ℕ → ℕ → EReal) (ho : Filled H G W n o)
    (hu : ∀ j q l, j < 44 → q < 264 → l < 128 → u j q l = if n % 8 = 0 then put o T j q l else o j q l)
    (q k : ℕ) (hq : q < 258) (hk : k < 5632) :
    rowsOf u q k = full H T G W (n / 8) (256 * (n % 8) + q) k := by
  have hj : k / 128 < 44 := by omega
  have hl : k % 128 < 128 := by omega
  have ek : 128 * (k / 128) + k % 128 = k := by omega
  unfold rowsOf full
  rw [hu _ _ _ hj (by omega) hl]
  by_cases h2 : 2 ≤ q
  · have e : (if n % 8 = 0 then put o T (k / 128) (q + 6) (k % 128) else o (k / 128) (q + 6) (k % 128)) = o (k / 128) (q + 6) (k % 128) := by
      unfold put; rw [if_neg (show ¬(6 ≤ q + 6 ∧ q + 6 < 8) by omega)]; split <;> rfl
    rw [e, (ho _ _ _ hj (by omega) hl).1 (by omega), if_neg (by omega), ek]
    rw [show 256 * min n 63 + (q + 6 - 8) = 2048 * (n / 8) + (256 * (n % 8) + q - 2) by omega]
  · by_cases h8 : n % 8 = 0
    · rw [if_pos h8]; unfold put
      rw [if_pos (show 6 ≤ q + 6 ∧ q + 6 < 8 by omega), if_pos (by omega), ek, h8]
      rw [show q + 6 - 6 = 256 * 0 + q by omega]
    · rw [if_neg h8, (ho _ _ _ hj (by omega) hl).2 (by omega) (by omega), if_neg (by omega), ek]
      rw [show 256 * (n - 1) + 248 + (q + 6) = 2048 * (n / 8) + (256 * (n % 8) + q - 2) by omega]

end

/-! ## The program's arguments at numbers -/

variable (m : (l : Loc nD τ sig) → Buf (Elt Ideal) l) (c : Dev nD)

abbrev aH : ℕ → ℕ → EReal := at2 (a := 16384) (b := 1024) (m ((c : Thread nD τ).loc main_arg0))
abbrev aT : ℕ → ℕ → EReal := at3 (a := 1) (b := 2) (c := 5632) (m ((c : Thread nD τ).loc main_arg1)) 0
abbrev aG : ℕ → EReal := at2 (a := 1) (b := 1024) (m ((c : Thread nD τ).loc main_arg2)) 0
abbrev aW : ℕ → ℕ → EReal := at3 (a := 1) (b := 1024) (c := 5632) (m ((c : Thread nD τ).loc main_arg3)) 0
abbrev aC : ℕ → ℕ → EReal := at3 (a := 1) (b := 3) (c := 5632) (m ((c : Thread nD τ).loc main_arg4)) 0
abbrev aB : ℕ → EReal := at2 (a := 1) (b := 5632) (m ((c : Thread nD τ).loc main_arg5)) 0
abbrev aD : ℕ → ℕ → EReal := at3 (a := 1) (b := 2816) (c := 1024) (m ((c : Thread nD τ).loc main_arg6)) 0
abbrev aF : ℕ → EReal := at1 (a := 1024) (m ((c : Thread nD τ).loc main_arg7))

/-- A matrix that is `f` at every element is `f` at every number where `f` vanishes outside it. -/
theorem at2_eq {a b : ℕ} (x : (⟨2, ![a, b]⟩ : Shape).Idx → EReal) (f : ℕ → ℕ → EReal) (h : ∀ y, x y = f (y 0).val (y 1).val)
    (p k : ℕ) (hf : ¬(p < a ∧ k < b) → f p k = 0) : at2 x p k = f p k := by
  unfold at2
  by_cases hp : p < a ∧ k < b
  · rw [dif_pos hp]; exact h _
  · rw [dif_neg hp]; exact (hf hp).symm

theorem at1_out {a : ℕ} (x : (⟨1, ![a]⟩ : Shape).Idx → EReal) (k : ℕ) (h : ¬k < a) : at1 x k = 0 := dif_neg h
theorem at2_out {a b : ℕ} (x : (⟨2, ![a, b]⟩ : Shape).Idx → EReal) (p k : ℕ) (h : ¬(p < a ∧ k < b)) : at2 x p k = 0 := dif_neg h
theorem at3_out {a b d : ℕ} (x : (⟨3, ![a, b, d]⟩ : Shape).Idx → EReal) (r p k : ℕ) (h : ¬(p < b ∧ k < d)) : at3 x r p k = 0 :=
  dif_neg fun h' => h h'.2

theorem row_1 (t : Fin cfg0.N) (p : ℕ) (hp : p < 256) : at2 (a := 256) (b := 1024) (iblk m c 1 t) p = aH m c (256 * min t.val 63 + p) :=
  funext fun k => at2_eq _ (fun p k => aH m c (256 * min t.val 63 + p) k) (blk_1 m c t) p k
    fun h => at2_out _ _ _ fun h' => h ⟨hp, h'.2⟩
theorem row_2 (t : Fin cfg0.N) (p : ℕ) (hp : p < 256) : at2 (a := 256) (b := 1024) (iblk m c 2 t) p = aH m c (256 * (t.val - 1) + p) :=
  funext fun k => at2_eq _ (fun p k => aH m c (256 * (t.val - 1) + p) k) (blk_2 m c t) p k
    fun h => at2_out _ _ _ fun h' => h ⟨hp, h'.2⟩
theorem row_3 (t : Fin cfg0.N) : at2 (a := 1) (b := 1024) (iblk m c 3 t) 0 = aG m c :=
  funext fun k => at2_eq _ (fun _ k => aG m c k) (blk_3 m c t) 0 k fun h => at2_out _ _ _ h
theorem row_4 (t : Fin cfg0.N) : at2 (a := 1024) (b := 5632) (iblk m c 4 t) = aW m c :=
  funext fun p => funext fun k => at2_eq _ (aW m c) (blk_4 m c t) p k fun h => at3_out _ _ _ _ h
theorem row_5 (t : Fin cfg0.N) : at3 (a := 1) (b := 2) (c := 5632) (iblk m c 5 t) 0 = aT m c :=
  funext fun p => funext fun k => by
    show at3 (a := 1) (b := 2) (c := 5632) (iblk m c 5 t) 0 p k = at3 (a := 1) (b := 2) (c := 5632) _ 0 p k
    by_cases h : p < 2 ∧ k < 5632
    · exact (dif_pos ⟨Nat.one_pos, h⟩).trans (blk_5 m c t (ix3 0 ⟨p, h.1⟩ ⟨k, h.2⟩))
    · exact (at3_out _ _ _ _ h).trans (at3_out _ _ _ _ h).symm
theorem row_6 (t : Fin cfg0.N) : at2 (a := 3) (b := 5632) (iblk m c 6 t) = aC m c :=
  funext fun p => funext fun k => at2_eq _ (aC m c) (blk_6 m c t) p k fun h => at3_out _ _ _ _ h
theorem row_7 (t : Fin cfg0.N) : at2 (a := 1) (b := 5632) (iblk m c 7 t) 0 = aB m c :=
  funext fun k => at2_eq _ (fun _ k => aB m c k) (blk_7 m c t) 0 k fun h => at2_out _ _ _ h
theorem row_8 (t : Fin cfg0.N) : at2 (a := 2816) (b := 1024) (iblk m c 8 t) = aD m c :=
  funext fun p => funext fun k => at2_eq _ (aD m c) (blk_8 m c t) p k fun h => at3_out _ _ _ _ h
theorem row_9 (t : Fin cfg0.N) : at2 (a := 1) (b := 1024) (iblk m c 9 t) 0 = aF m c :=
  funext fun k => at2_eq _ (fun _ k => aF m c k) (blk_9 m c t) 0 k fun h => at1_out _ _ fun h' => h ⟨Nat.one_pos, h'⟩

/-! ## The points' conditions -/

theorem not_first {n : ℕ} (hn : n < 65) (h0 : ¬n % 65 = 0) (h1 : n % 2 = 0) : ¬(n % 65 = 0 ∨ n % 65 = 1 ∨ n % 65 = 9 ∨ n % 65 = 17 ∨ n % 65 = 25 ∨ n % 65 = 33 ∨ n % 65 = 41 ∨ n % 65 = 49 ∨ n % 65 = 57) := by rw [Nat.mod_eq_of_lt hn] at *; omega
theorem not_last {n : ℕ} (hn : n < 65) (h1 : ¬n % 2 = 0) : ¬(n % 65 = 8 ∨ n % 65 = 16 ∨ n % 65 = 24 ∨ n % 65 = 32 ∨ n % 65 = 40 ∨ n % 65 = 48 ∨ n % 65 = 56 ∨ n % 65 = 64) := by rw [Nat.mod_eq_of_lt hn] at *; omega
theorem is_last {n : ℕ} (hn : n < 65) (h0 : ¬n = 0) (h : n % 8 = 0) : (n % 65 = 8 ∨ n % 65 = 16 ∨ n % 65 = 24 ∨ n % 65 = 32 ∨ n % 65 = 40 ∨ n % 65 = 48 ∨ n % 65 = 56 ∨ n % 65 = 64) := by rw [Nat.mod_eq_of_lt hn] at *; omega
theorem zero_not_last : ¬(0 % 65 = 8 ∨ 0 % 65 = 16 ∨ 0 % 65 = 24 ∨ 0 % 65 = 32 ∨ 0 % 65 = 40 ∨ 0 % 65 = 48 ∨ 0 % 65 = 56 ∨ 0 % 65 = 64) := by decide
theorem not_odd {n : ℕ} (h1 : n % 2 = 0) : ¬n % 2 = 1 := by omega
theorem is_odd {n : ℕ} (h1 : ¬n % 2 = 0) : n % 2 = 1 := by omega
theorem pred_odd {n : ℕ} (h0 : ¬n % 65 = 0) (h1 : n % 2 = 0) : ¬(n - 1) % 2 = 0 := by omega
theorem pred_even {n : ℕ} (h1 : ¬n % 2 = 0) : (n - 1) % 2 = 0 := by omega
theorem pred_first {n : ℕ} (hn : n < 65) (h1 : ¬n % 2 = 0) (h : (n % 65 = 0 ∨ n % 65 = 1 ∨ n % 65 = 9 ∨ n % 65 = 17 ∨ n % 65 = 25 ∨ n % 65 = 33 ∨ n % 65 = 41 ∨ n % 65 = 49 ∨ n % 65 = 57)) : (n - 1) % 8 = 0 := by rw [Nat.mod_eq_of_lt hn] at *; omega
theorem pred_not_first {n : ℕ} (hn : n < 65) (h0 : ¬n % 65 = 0) (h : ¬(n % 65 = 0 ∨ n % 65 = 1 ∨ n % 65 = 9 ∨ n % 65 = 17 ∨ n % 65 = 25 ∨ n % 65 = 33 ∨ n % 65 = 41 ∨ n % 65 = 49 ∨ n % 65 = 57)) : ¬(n - 1) % 8 = 0 := by rw [Nat.mod_eq_of_lt hn] at *; omega

/-! ## The buffers, point by point -/

/-- The buffer filled at point `n`, as the point leaves it. -/
def cur (n : ℕ) (hn : n < cfg0.N) : ℕ → ℕ → ℕ → EReal :=
  if n % 2 = 0 then at3 (a := 44) (b := 264) (c := 128) (outsAt0 m c n hn).2.2.1
  else at3 (a := 44) (b := 264) (c := 128) (outsAt0 m c n hn).2.2.2

theorem cur_even {n : ℕ} {hn : n < cfg0.N} (h : n % 2 = 0) : cur m c n hn = at3 (a := 44) (b := 264) (c := 128) (outsAt0 m c n hn).2.2.1 := if_pos h
theorem cur_odd {n : ℕ} {hn : n < cfg0.N} (h : ¬n % 2 = 0) : cur m c n hn = at3 (a := 44) (b := 264) (c := 128) (outsAt0 m c n hn).2.2.2 := if_neg h

set_option maxHeartbeats 4000000 in
theorem cur_next (t : Fin cfg0.N) (ht : t.val < 65) (h0 : ¬t.val % 65 = 0) (hp : t.val - 1 < cfg0.N) (j q l : ℕ) (hj : j < 44) (hq : q < 264) (hl : l < 128) :
    cur m c t.val t.isLt j q l = next (cur m c (t.val - 1) hp) (at2 (a := 256) (b := 1024) (iblk m c 1 t))
      (at2 (a := 1) (b := 1024) (iblk m c 3 t) 0) (at2 (a := 1024) (b := 5632) (iblk m c 4 t)) j q l := by
  by_cases h1 : t.val % 2 = 0
  · rw [cur_even m c h1, cur_odd m c (n := t.val - 1) (pred_odd h0 h1)]
    by_cases h3 : (t.val % 65 = 8 ∨ t.val % 65 = 16 ∨ t.val % 65 = 24 ∨ t.val % 65 = 32 ∨ t.val % 65 = 40 ∨ t.val % 65 = 48 ∨ t.val % 65 = 56 ∨ t.val % 65 = 64)
    · have e := buf_E (c := c) (i := grid0.coords t) (hc0 := fun h => h0 ((hcond0_0 t).mp h)) (hc1 := (hcond0_1 t).mpr h1) (hc2 := fun h => not_first ht h0 h1 ((hcond0_2 t).mp h)) (hc3 := (hcond0_3 t).mpr h3) (hc4 := fun h => not_odd h1 ((hcond0_4 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.2) j q l hj hq hl
      exact (congrArg (fun z => at3 (a := 44) (b := 264) (c := 128) z.2.2.1 j q l) (outsAt0_E m c t h0 h1 (not_first ht h0 h1) h3 (not_odd h1))).trans e
    · have e := buf_C (c := c) (i := grid0.coords t) (hc0 := fun h => h0 ((hcond0_0 t).mp h)) (hc1 := (hcond0_1 t).mpr h1) (hc2 := fun h => not_first ht h0 h1 ((hcond0_2 t).mp h)) (hc3 := fun h => h3 ((hcond0_3 t).mp h)) (hc4 := fun h => not_odd h1 ((hcond0_4 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.2) j q l hj hq hl
      exact (congrArg (fun z => at3 (a := 44) (b := 264) (c := 128) z.2.2.1 j q l) (outsAt0_C m c t h0 h1 (not_first ht h0 h1) h3 (not_odd h1))).trans e
  · rw [cur_odd m c h1, cur_even m c (n := t.val - 1) (pred_even h1)]
    by_cases h5 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)
    · have e := buf_B (c := c) (i := grid0.coords t) (hc0 := fun h => h0 ((hcond0_0 t).mp h)) (hc1 := fun h => h1 ((hcond0_1 t).mp h)) (hc4 := (hcond0_4 t).mpr (is_odd h1)) (hc5 := (hcond0_5 t).mpr h5) (hc6 := fun h => not_last ht h1 ((hcond0_6 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.1) j q l hj hq hl
      exact (congrArg (fun z => at3 (a := 44) (b := 264) (c := 128) z.2.2.2 j q l) (outsAt0_B m c t h0 h1 (is_odd h1) h5 (not_last ht h1))).trans e
    · have e := buf_D (c := c) (i := grid0.coords t) (hc0 := fun h => h0 ((hcond0_0 t).mp h)) (hc1 := fun h => h1 ((hcond0_1 t).mp h)) (hc4 := (hcond0_4 t).mpr (is_odd h1)) (hc5 := fun h => h5 ((hcond0_5 t).mp h)) (hc6 := fun h => not_last ht h1 ((hcond0_6 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.1) j q l hj hq hl
      exact (congrArg (fun z => at3 (a := 44) (b := 264) (c := 128) z.2.2.2 j q l) (outsAt0_D m c t h0 h1 (is_odd h1) h5 (not_last ht h1))).trans e

set_option maxHeartbeats 4000000 in
theorem cur_filled : ∀ (n : ℕ) (hn : n < cfg0.N), n < 65 → Filled (aH m c) (aG m c) (aW m c) n (cur m c n hn)
  | 0, hn, _ => fun j q l hj hq hl => ⟨fun h8 => by
      rw [cur_even m c rfl]
      have e := buf_A (c := c) (i := grid0.coords (⟨0, hn⟩ : Fin cfg0.N)) (hc0 := (hcond0_0 (⟨0, hn⟩ : Fin cfg0.N)).mpr rfl) (hc1 := (hcond0_1 (⟨0, hn⟩ : Fin cfg0.N)).mpr rfl) (hc2 := (hcond0_2 (⟨0, hn⟩ : Fin cfg0.N)).mpr (Or.inl rfl)) (hc3 := fun h => zero_not_last ((hcond0_3 (⟨0, hn⟩ : Fin cfg0.N)).mp h)) (hc4 := fun h => not_odd (n := 0) rfl ((hcond0_4 (⟨0, hn⟩ : Fin cfg0.N)).mp h))
        (arg1 := ms0_0 (⟨0, hn⟩ : Fin cfg0.N)) (arg2 := ms0_1 (⟨0, hn⟩ : Fin cfg0.N)) (arg3 := ms0_2 (⟨0, hn⟩ : Fin cfg0.N)) (arg4 := ms0_3 (⟨0, hn⟩ : Fin cfg0.N)) (arg5 := ms0_4 (⟨0, hn⟩ : Fin cfg0.N)) (arg6 := ms0_5 (⟨0, hn⟩ : Fin cfg0.N)) (arg7 := ms0_6 (⟨0, hn⟩ : Fin cfg0.N)) (arg8 := ms0_7 (⟨0, hn⟩ : Fin cfg0.N)) (arg9 := ms0_8 (⟨0, hn⟩ : Fin cfg0.N)) (arg10 := ms0_9 (⟨0, hn⟩ : Fin cfg0.N)) (arg11 := ms0_10 (⟨0, hn⟩ : Fin cfg0.N)) (arg12 := ms0_11 (⟨0, hn⟩ : Fin cfg0.N))
        (harg1 := hs0_0 (⟨0, hn⟩ : Fin cfg0.N)) (harg2 := hs0_1 (⟨0, hn⟩ : Fin cfg0.N)) (harg3 := hs0_2 (⟨0, hn⟩ : Fin cfg0.N)) (harg4 := hs0_3 (⟨0, hn⟩ : Fin cfg0.N)) (harg5 := hs0_4 (⟨0, hn⟩ : Fin cfg0.N)) (harg6 := hs0_5 (⟨0, hn⟩ : Fin cfg0.N)) (harg7 := hs0_6 (⟨0, hn⟩ : Fin cfg0.N))
        (harg8 := hs0_7 (⟨0, hn⟩ : Fin cfg0.N)) (harg9 := hs0_8 (⟨0, hn⟩ : Fin cfg0.N)) (harg10 := hs0_9 (⟨0, hn⟩ : Fin cfg0.N)) (harg11 := hs0_10 (⟨0, hn⟩ : Fin cfg0.N)) (harg12 := hs0_11 (⟨0, hn⟩ : Fin cfg0.N))
        (arg13 := scM0_0) (arg14 := scM0_1) (arg15 := scM0_2) (harg13 := Memref.isWhole_whole _) (harg14 := Memref.isWhole_whole _) (harg15 := Memref.isWhole_whole _) (x0 := iblk m c 0 (⟨0, hn⟩ : Fin cfg0.N))
        (x1 := iblk m c 1 (⟨0, hn⟩ : Fin cfg0.N)) (x2 := iblk m c 2 (⟨0, hn⟩ : Fin cfg0.N)) (x3 := iblk m c 3 (⟨0, hn⟩ : Fin cfg0.N)) (x4 := iblk m c 4 (⟨0, hn⟩ : Fin cfg0.N)) (x5 := iblk m c 5 (⟨0, hn⟩ : Fin cfg0.N)) (x6 := iblk m c 6 (⟨0, hn⟩ : Fin cfg0.N))
        (x7 := iblk m c 7 (⟨0, hn⟩ : Fin cfg0.N)) (x8 := iblk m c 8 (⟨0, hn⟩ : Fin cfg0.N)) (x9 := iblk m c 9 (⟨0, hn⟩ : Fin cfg0.N)) j q l hj hq hl h8
      refine ((congrArg (fun z => at3 (a := 44) (b := 264) (c := 128) z.2.2.1 j q l)
        (outsAt0_A m c (⟨0, hn⟩ : Fin cfg0.N) rfl rfl (Or.inl rfl) zero_not_last (not_odd (n := 0) rfl))).trans e).trans ?_
      rw [row_1 m c ⟨0, hn⟩ (q - 8) (by omega), row_3, row_4], fun _ h => absurd h (Nat.lt_irrefl 0)⟩
  | n + 1, hn, h65 => filled_next _ _ _ n (by omega) (cur m c n (by omega)) (cur_filled n (by omega) (by omega)) _
      fun j q l hj hq hl => by
        refine (cur_next m c ⟨n + 1, hn⟩ h65 (by show ¬(n + 1) % 65 = 0; omega) (by show n + 1 - 1 < _; omega) j q l hj hq hl).trans ?_
        rw [row_3, row_4]
        unfold next
        by_cases h8 : q < 8
        · rw [if_pos h8, if_pos h8]; rfl
        · rw [if_neg h8, if_neg h8, row_1 m c ⟨n + 1, hn⟩ (q - 8) (by omega)]

/-! ## What a point leaves of the results -/

set_option maxHeartbeats 4000000 in
theorem point_C (t : Fin cfg0.N) (ht : t.val < 65) (h0 : ¬t.val % 65 = 0) (hp : t.val - 1 < cfg0.N) (h1 : t.val % 2 = 0) (h3 : ¬(t.val % 65 = 8 ∨ t.val % 65 = 16 ∨ t.val % 65 = 24 ∨ t.val % 65 = 32 ∨ t.val % 65 = 40 ∨ t.val % 65 = 48 ∨ t.val % 65 = 56 ∨ t.val % 65 = 64))
    (k : S256x1024.Idx) : (outsAt0 m c t.val t.isLt).1 k = rms (down (at2 (a := 256) (b := 1024) (iblk m c 2 t) (k 0).val)
        (act (at2 (a := 3) (b := 5632) (iblk m c 6 t)) (at2 (a := 1) (b := 5632) (iblk m c 7 t) 0) (rowsOf (at3 (a := 44) (b := 264) (c := 128) (outsAt0 m c (t.val - 1) hp).2.2.2)) (k 0).val)
        (at2 (a := 2816) (b := 1024) (iblk m c 8 t))) (at2 (a := 1) (b := 1024) (iblk m c 9 t) 0) (k 1).val := by
  have e := y_at_C (c := c) (i := grid0.coords t) (hc0 := fun h => h0 ((hcond0_0 t).mp h)) (hc1 := (hcond0_1 t).mpr h1) (hc2 := fun h => not_first ht h0 h1 ((hcond0_2 t).mp h)) (hc3 := fun h => h3 ((hcond0_3 t).mp h)) (hc4 := fun h => not_odd h1 ((hcond0_4 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.2) (blk_0 m c t) k
  refine Eq.trans ?_ e
  exact congrFun (congrArg Prod.fst (outsAt0_C m c t h0 h1 (not_first ht h0 h1) h3 (not_odd h1))) k

set_option maxHeartbeats 4000000 in
theorem point_D (t : Fin cfg0.N) (ht : t.val < 65) (h0 : ¬t.val % 65 = 0) (hp : t.val - 1 < cfg0.N) (h1 : ¬t.val % 2 = 0) (h5 : ¬(t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57))
    (k : S256x1024.Idx) : (outsAt0 m c t.val t.isLt).1 k = rms (down (at2 (a := 256) (b := 1024) (iblk m c 2 t) (k 0).val)
        (act (at2 (a := 3) (b := 5632) (iblk m c 6 t)) (at2 (a := 1) (b := 5632) (iblk m c 7 t) 0) (rowsOf (at3 (a := 44) (b := 264) (c := 128) (outsAt0 m c (t.val - 1) hp).2.2.1)) (k 0).val)
        (at2 (a := 2816) (b := 1024) (iblk m c 8 t))) (at2 (a := 1) (b := 1024) (iblk m c 9 t) 0) (k 1).val := by
  have e := y_at_D (c := c) (i := grid0.coords t) (hc0 := fun h => h0 ((hcond0_0 t).mp h)) (hc1 := fun h => h1 ((hcond0_1 t).mp h)) (hc4 := (hcond0_4 t).mpr (is_odd h1)) (hc5 := fun h => h5 ((hcond0_5 t).mp h)) (hc6 := fun h => not_last ht h1 ((hcond0_6 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.1) (blk_0 m c t) k
  refine Eq.trans ?_ e
  exact congrFun (congrArg Prod.fst (outsAt0_D m c t h0 h1 (is_odd h1) h5 (not_last ht h1))) k

set_option maxHeartbeats 4000000 in
theorem point_E (t : Fin cfg0.N) (ht : t.val < 65) (h0 : ¬t.val % 65 = 0) (hp : t.val - 1 < cfg0.N) (h1 : t.val % 2 = 0) (h3 : (t.val % 65 = 8 ∨ t.val % 65 = 16 ∨ t.val % 65 = 24 ∨ t.val % 65 = 32 ∨ t.val % 65 = 40 ∨ t.val % 65 = 48 ∨ t.val % 65 = 56 ∨ t.val % 65 = 64))
    (k : S256x1024.Idx) : (outsAt0 m c t.val t.isLt).1 k = rms (down (at2 (a := 256) (b := 1024) (iblk m c 2 t) (k 0).val)
        (act (at2 (a := 3) (b := 5632) (iblk m c 6 t)) (at2 (a := 1) (b := 5632) (iblk m c 7 t) 0) (rowsOf (at3 (a := 44) (b := 264) (c := 128) (outsAt0 m c (t.val - 1) hp).2.2.2)) (k 0).val)
        (at2 (a := 2816) (b := 1024) (iblk m c 8 t))) (at2 (a := 1) (b := 1024) (iblk m c 9 t) 0) (k 1).val := by
  have e := y_at_E (c := c) (i := grid0.coords t) (hc0 := fun h => h0 ((hcond0_0 t).mp h)) (hc1 := (hcond0_1 t).mpr h1) (hc2 := fun h => not_first ht h0 h1 ((hcond0_2 t).mp h)) (hc3 := (hcond0_3 t).mpr h3) (hc4 := fun h => not_odd h1 ((hcond0_4 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.2) (blk_0 m c t) k
  refine Eq.trans ?_ e
  exact congrFun (congrArg Prod.fst (outsAt0_E m c t h0 h1 (not_first ht h0 h1) h3 (not_odd h1))) k

set_option maxHeartbeats 4000000 in
theorem point_B (t : Fin cfg0.N) (ht : t.val < 65) (h0 : ¬t.val % 65 = 0) (hp : t.val - 1 < cfg0.N) (h1 : ¬t.val % 2 = 0) (h5 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)) :
    ∃ u : ℕ → ℕ → ℕ → EReal, (∀ j q l, j < 44 → q < 264 → l < 128 → u j q l
      = put (at3 (a := 44) (b := 264) (c := 128) (outsAt0 m c (t.val - 1) hp).2.2.1) (at3 (a := 1) (b := 2) (c := 5632) (iblk m c 5 t) 0) j q l)
    ∧ ∀ k : S256x1024.Idx, (outsAt0 m c t.val t.isLt).1 k = rms (down (at2 (a := 256) (b := 1024) (iblk m c 2 t) (k 0).val)
        (act (at2 (a := 3) (b := 5632) (iblk m c 6 t)) (at2 (a := 1) (b := 5632) (iblk m c 7 t) 0) (rowsOf u) (k 0).val)
        (at2 (a := 2816) (b := 1024) (iblk m c 8 t))) (at2 (a := 1) (b := 1024) (iblk m c 9 t) 0) (k 1).val := by
  obtain ⟨u, hu, hy⟩ := y_at_B (c := c) (i := grid0.coords t) (hc0 := fun h => h0 ((hcond0_0 t).mp h)) (hc1 := fun h => h1 ((hcond0_1 t).mp h)) (hc4 := (hcond0_4 t).mpr (is_odd h1)) (hc5 := (hcond0_5 t).mpr h5) (hc6 := fun h => not_last ht h1 ((hcond0_6 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.1) (blk_0 m c t)
  refine ⟨u, hu, fun k => Eq.trans ?_ (hy k)⟩
  exact congrFun (congrArg Prod.fst (outsAt0_B m c t h0 h1 (is_odd h1) h5 (not_last ht h1))) k

theorem y_step (t : Fin cfg0.N) (ht : t.val < 65) (h0 : ¬t.val % 65 = 0) (hp : t.val - 1 < cfg0.N) : ∃ u : ℕ → ℕ → ℕ → EReal,
    (∀ j q l, j < 44 → q < 264 → l < 128 → u j q l = if (t.val - 1) % 8 = 0
      then put (cur m c (t.val - 1) hp) (at3 (a := 1) (b := 2) (c := 5632) (iblk m c 5 t) 0) j q l else cur m c (t.val - 1) hp j q l)
    ∧ ∀ k : S256x1024.Idx, (outsAt0 m c t.val t.isLt).1 k = rms (down (at2 (a := 256) (b := 1024) (iblk m c 2 t) (k 0).val)
        (act (at2 (a := 3) (b := 5632) (iblk m c 6 t)) (at2 (a := 1) (b := 5632) (iblk m c 7 t) 0) (rowsOf u) (k 0).val)
        (at2 (a := 2816) (b := 1024) (iblk m c 8 t))) (at2 (a := 1) (b := 1024) (iblk m c 9 t) 0) (k 1).val := by
  by_cases h1 : t.val % 2 = 0
  · rw [cur_odd m c (n := t.val - 1) (pred_odd h0 h1)]
    refine ⟨at3 (a := 44) (b := 264) (c := 128) (outsAt0 m c (t.val - 1) hp).2.2.2,
      fun j q l hj hq hl => (if_neg fun h => pred_odd h0 h1 (by rw [← Nat.mod_mod_of_dvd _ (show 2 ∣ 8 by decide), h])).symm, fun k => ?_⟩
    by_cases h3 : (t.val % 65 = 8 ∨ t.val % 65 = 16 ∨ t.val % 65 = 24 ∨ t.val % 65 = 32 ∨ t.val % 65 = 40 ∨ t.val % 65 = 48 ∨ t.val % 65 = 56 ∨ t.val % 65 = 64)
    · exact point_E m c t ht h0 hp h1 h3 k
    · exact point_C m c t ht h0 hp h1 h3 k
  · rw [cur_even m c (n := t.val - 1) (pred_even h1)]
    by_cases h5 : (t.val % 65 = 0 ∨ t.val % 65 = 1 ∨ t.val % 65 = 9 ∨ t.val % 65 = 17 ∨ t.val % 65 = 25 ∨ t.val % 65 = 33 ∨ t.val % 65 = 41 ∨ t.val % 65 = 49 ∨ t.val % 65 = 57)
    · obtain ⟨u, hu, hy⟩ := point_B m c t ht h0 hp h1 h5
      exact ⟨u, fun j q l hj hq hl => (hu j q l hj hq hl).trans (if_pos (pred_first ht h1 h5)).symm, hy⟩
    · exact ⟨at3 (a := 44) (b := 264) (c := 128) (outsAt0 m c (t.val - 1) hp).2.2.1,
        fun j q l hj hq hl => (if_neg (pred_not_first ht h0 h5)).symm, fun k => point_D m c t ht h0 hp h1 h5 k⟩

/-- A point after the first leaves its finished rows. -/
theorem y_at (t : Fin cfg0.N) (ht : t.val < 65) (h0 : ¬t.val = 0) (k : S256x1024.Idx) :
    (outsAt0 m c t.val t.isLt).1 k
      = out (aH m c) (aT m c) (aG m c) (aW m c) (aC m c) (aB m c) (aD m c) (aF m c) (256 * (t.val - 1) + (k 0).val) (k 1).val := by
  have hp : t.val - 1 < cfg0.N := by have := t.isLt; omega
  have hk : (k 0).val < 256 := (k 0).isLt
  obtain ⟨u, hu, hy⟩ := y_step m c t ht (by omega) hp
  rw [row_5] at hu
  rw [hy k, row_2 m c t _ hk, row_6, row_7, row_8, row_9]
  unfold out
  refine congrArg (fun z => rms z (aF m c) (k 1).val) (down_congr rfl (fun p hp' => ?_) rfl)
  refine act_congr hp' fun d k' hd hk' => ?_
  rw [rows_full _ (aT m c) _ _ (t.val - 1) (by omega) _ u (cur_filled m c (t.val - 1) hp (by omega)) hu _ k' (by omega) hk']
  rw [show (t.val - 1) / 8 = (256 * (t.val - 1) + (k 0).val) / 2048 by omega,
    show 256 * ((t.val - 1) % 8) + ((k 0).val + d) = (256 * (t.val - 1) + (k 0).val) % 2048 + d by omega]

set_option maxHeartbeats 4000000 in
/-- A sequence's last point leaves its carried tail. -/
theorem last_at (t : Fin cfg0.N) (ht : t.val < 65) (h3 : t.val % 8 = 0) (h0 : ¬t.val = 0) (k : S1x2x5632.Idx) :
    (outsAt0 m c t.val t.isLt).2.1 k
      = full (aH m c) (aT m c) (aG m c) (aW m c) ((t.val - 1) / 8) (2048 + (k 1).val) (k 2).val := by
  have hp : t.val - 1 < cfg0.N := by have := t.isLt; omega
  have l1 : (k 1).val < 2 := (k 1).isLt
  have l2 : (k 2).val < 5632 := (k 2).isLt
  have hm : ¬t.val % 65 = 0 := by omega
  have h1 : t.val % 2 = 0 := by omega
  have h3' := is_last ht h0 h3
  have e := last_at_E (c := c) (i := grid0.coords t) (hc0 := fun h => hm ((hcond0_0 t).mp h)) (hc1 := (hcond0_1 t).mpr h1) (hc2 := fun h => not_first ht hm h1 ((hcond0_2 t).mp h)) (hc3 := (hcond0_3 t).mpr h3') (hc4 := fun h => not_odd h1 ((hcond0_4 t).mp h))
        (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t)
        (harg1 := hs0_0 t) (harg2 := hs0_1 t) (harg3 := hs0_2 t) (harg4 := hs0_3 t) (harg5 := hs0_4 t) (harg6 := hs0_5 t) (harg7 := hs0_6 t)
        (harg8 := hs0_7 t) (harg9 := hs0_8 t) (harg10 := hs0_9 t) (harg11 := hs0_10 t) (harg12 := hs0_11 t)
        (arg13 := scM0_0) (arg14 := scM0_1) (arg15 := scM0_2) (harg13 := Memref.isWhole_whole _) (harg14 := Memref.isWhole_whole _) (harg15 := Memref.isWhole_whole _) (x0 := iblk m c 0 t)
        (x1 := iblk m c 1 t) (x2 := iblk m c 2 t) (x3 := iblk m c 3 t) (x4 := iblk m c 4 t) (x5 := iblk m c 5 t) (x6 := iblk m c 6 t)
        (x7 := iblk m c 7 t) (x8 := iblk m c 8 t) (x9 := iblk m c 9 t) (xs := (outsAt0 m c (t.val - 1) hp).2.2.2) k
  refine Eq.trans (congrFun (congrArg (fun z => z.2.1) (outsAt0_E m c t hm h1 (not_first ht hm h1) h3' (not_odd h1))) k) ?_
  refine Eq.trans e ?_
  generalize (k 1).val = r at l1 ⊢
  generalize (k 2).val = s at l2 ⊢
  have e := cur_odd m c (n := t.val - 1) (hn := hp) (pred_odd hm h1)
  have := rows_full (aH m c) (aT m c) (aG m c) (aW m c) (t.val - 1) (by omega) _ (cur m c (t.val - 1) hp) (cur_filled m c (t.val - 1) hp (by omega))
    (fun j q l _ _ _ => by rw [if_neg (by omega)]) (256 + r) s (by omega) l2
  rw [e] at this
  refine this.trans ?_
  rw [show 256 * ((t.val - 1) % 8) + (256 + r) = 2048 + r by omega]

end Cert.KernelIdeal.Body

end
-- ==== Proof.RefValue.lean ====
/- The reference's two results, read as the functions of `Spec`. -/
module

public import proofs.«01_k».proof.Proof.Gen.ReferenceIdeal.Read
public import proofs.«01_k».proof.Proof.Spec

@[expose] public section

noncomputable section

open scoped BigOperators

namespace Cert.ReferenceIdeal.RefValue

open Cert.ReferenceIdeal Cert.ReferenceIdeal.Read Cert.Ffn Idealize.ShloMosaic Idealize.ShloMosaic.ValueIdx

variable (x0 : (⟨S16384x1024, .f32⟩ : BufTy).Contents (Elt Ideal)) (x1 : (⟨S1x2x5632, .f32⟩ : BufTy).Contents (Elt Ideal))
  (x2 : (⟨S1x1024, .f32⟩ : BufTy).Contents (Elt Ideal)) (x3 : (⟨S1x1024x5632, .f32⟩ : BufTy).Contents (Elt Ideal))
  (x4 : (⟨S1x3x5632, .f32⟩ : BufTy).Contents (Elt Ideal)) (x5 : (⟨S1x5632, .f32⟩ : BufTy).Contents (Elt Ideal))
  (x6 : (⟨S1x2816x1024, .f32⟩ : BufTy).Contents (Elt Ideal)) (x7 : (⟨S1024, .f32⟩ : BufTy).Contents (Elt Ideal))

theorem v0_at (i : S8x2048x1024.Idx) (b r k : ℕ) (h0 : (i 0).val = b) (h1 : (i 1).val = r) (h2 : (i 2).val = k) :
    val_main_v0 (F := Ideal) x0 i = at2 (a := 16384) (b := 1024) x0 (2048 * b + r) k := by
  have l2 : (i 2).val < 1024 := (i 2).isLt
  rw [val_main_v0_apply]
  refine eq_at2 (a := 16384) (b := 1024) _ _ _ _ ?_ ?_
  · show (((i 0).val * 2048 + (i 1).val) * 1024 + (i 2).val) / 1024 = _; omega
  · show (((i 0).val * 2048 + (i 1).val) * 1024 + (i 2).val) % 1024 = _; omega

/-- The normalised row. -/
theorem v14_at (i : S8x2048x1024.Idx) (b r k : ℕ) (h0 : (i 0).val = b) (h1 : (i 1).val = r) (h2 : (i 2).val = k) :
    val_main_v14 (F := Ideal) x0 x2 i
      = rms (at2 (a := 16384) (b := 1024) x0 (2048 * b + r)) (at2 (a := 1) (b := 1024) x2 0) k := by
  have l2 : (i 2).val < 1024 := (i 2).isLt
  rw [val_main_v14_apply, val_main_v11_apply, val_main_v10_apply, val_main_v9_apply, val_main_v8_apply,
    val_main_v6_apply, val_main_v4_apply, val_main_v3_apply, val_main_v5_apply, val_main_v7_apply,
    val_main_v13_apply, val_main_v12_apply, val_main_v1_apply, val_main_cst_apply, val_main_cst_0_apply,
    val_main_cst_1_apply, v0_at x0 i b r k h0 h1 h2]
  simp only [Ideal.mulf_def, Ideal.hostUnary_rsqrt_def, Ideal.addf_def, Ideal.hostDivf_def, Ideal.ofBits_def,
    Ideal.ofBits_zero_f32]
  unfold rms
  refine congrArg₂ (· * ·) (congrArg (_ * ·) (congrArg Ideal.rsqrt (congrArg (· + _) (congrArg (Ideal.div · _)
    (congrArg (0 + ·) (Finset.sum_congr rfl fun q _ => ?_)))))) (eq_at2 (a := 1) (b := 1024) _ _ _ _ rfl ?_)
  · rw [val_main_v2_apply, Ideal.mulf_def, v0_at x0 (idx_main_v3 (idx_main_v4 (idx_main_v10 i)) q) b r q.val h0 h1 rfl]
  · show (i 2).val % 1024 = k; omega

theorem v16_at (i : S8x2048x5632.Idx) (b r k : ℕ) (h0 : (i 0).val = b) (h1 : (i 1).val = r) (h2 : (i 2).val = k) :
    val_main_v16 (F := Ideal) x0 x2 x3 i
      = up (at2 (a := 16384) (b := 1024) x0 (2048 * b + r)) (at2 (a := 1) (b := 1024) x2 0)
          (at3 (a := 1) (b := 1024) (c := 5632) x3 0) k := by
  have l2 : (i 2).val < 5632 := (i 2).isLt
  rw [val_main_v16_apply]
  refine Finset.sum_congr rfl fun q _ => ?_
  have lq : q.val < 1024 := q.isLt
  rw [v14_at x0 x2 _ b r q.val h0 h1 rfl, val_main_v15_apply]
  refine congrArg (_ * ·) (eq_at3 (a := 1) (b := 1024) (c := 5632) _ _ _ _ _ rfl ?_ ?_)
  · show (q.val * 5632 + (i 2).val) / 5632 % 1024 = _; omega
  · show (q.val * 5632 + (i 2).val) % 5632 = _; omega

/-- The rows with the tail before them. -/
theorem v18_at (i : S8x2050x5632.Idx) (b q k : ℕ) (h0 : (i 0).val = b) (h1 : (i 1).val = q) (h2 : (i 2).val = k) :
    val_main_v18 (F := Ideal) x0 x1 x2 x3 i
      = full (at2 (a := 16384) (b := 1024) x0) (at3 (a := 1) (b := 2) (c := 5632) x1 0) (at2 (a := 1) (b := 1024) x2 0)
          (at3 (a := 1) (b := 1024) (c := 5632) x3 0) b q k := by
  have l0 : (i 0).val < 8 := (i 0).isLt
  have l1 : (i 1).val < 2050 := (i 1).isLt
  have l2 : (i 2).val < 5632 := (i 2).isLt
  unfold val_main_v18 full
  by_cases hq : q < 2
  · rw [if_pos hq]
    rw [concatenate_pair_apply_left (t := S8x2050x5632) (s₁ := S8x2x5632) (s₂ := S8x2048x5632) 1 _ _ _ i rfl
      (ix3 ⟨(i 0).val, l0⟩ ⟨(i 1).val, by omega⟩ ⟨(i 2).val, l2⟩)
      (fun d => match d with | ⟨0, _⟩ => rfl | ⟨1, _⟩ => rfl | ⟨2, _⟩ => rfl)]
    rw [val_main_v17_apply]
    exact eq_at3 (a := 1) (b := 2) (c := 5632) _ _ _ _ _ rfl h1 h2
  · rw [if_neg hq]
    rw [concatenate_pair_apply_right (t := S8x2050x5632) (s₁ := S8x2x5632) (s₂ := S8x2048x5632) 1 _ _ _ i rfl rfl
      (ix3 ⟨(i 0).val, l0⟩ ⟨(i 1).val - 2, by omega⟩ ⟨(i 2).val, l2⟩)
      (fun d => match d with | ⟨0, _⟩ => fun _ => rfl | ⟨1, _⟩ => fun h => absurd rfl h | ⟨2, _⟩ => fun _ => rfl)
      (by show (i 1).val - 2 + 2 = (i 1).val; omega)]
    exact v16_at x0 x2 x3 _ b (q - 2) k h0 (by show (i 1).val - 2 = _; rw [h1]) h2

theorem v43_at (i : S8x2048x5632.Idx) (b r k : ℕ) (h0 : (i 0).val = b) (h1 : (i 1).val = r) (h2 : (i 2).val = k) :
    val_main_v43 (F := Ideal) x0 x1 x2 x3 x4 x5 i
      = conv (at3 (a := 1) (b := 3) (c := 5632) x4 0) (at2 (a := 1) (b := 5632) x5 0)
          (full (at2 (a := 16384) (b := 1024) x0) (at3 (a := 1) (b := 2) (c := 5632) x1 0)
            (at2 (a := 1) (b := 1024) x2 0) (at3 (a := 1) (b := 1024) (c := 5632) x3 0) b) r k := by
  have l2 : (i 2).val < 5632 := (i 2).isLt
  rw [val_main_v43_apply, val_main_v39_apply, val_main_v32_apply, val_main_v25_apply, val_main_v31_apply,
    val_main_v38_apply, val_main_v20_apply, val_main_v26_apply, val_main_v33_apply, val_main_v24_apply,
    val_main_v23_apply, val_main_v22_apply, val_main_v21_apply, val_main_v19_apply, val_main_v30_apply,
    val_main_v29_apply, val_main_v28_apply, val_main_v27_apply, val_main_v19_apply, val_main_v37_apply,
    val_main_v36_apply, val_main_v35_apply, val_main_v34_apply, val_main_v19_apply, val_main_v42_apply,
    val_main_v41_apply, val_main_v40_apply]
  simp only [Ideal.addf_def, Ideal.mulf_def]
  unfold conv
  rw [v18_at x0 x1 x2 x3 (idx_main_v20 i) b r k h0 h1 h2,
    v18_at x0 x1 x2 x3 (idx_main_v26 i) b (r + 1) k h0 (by show 1 + (i 1).val = _; omega) h2,
    v18_at x0 x1 x2 x3 (idx_main_v33 i) b (r + 2) k h0 (by show 2 + (i 1).val = _; omega) h2]
  rw [eq_at3 (a := 1) (b := 3) (c := 5632) x4 _ 0 0 k rfl _ _, eq_at3 (a := 1) (b := 3) (c := 5632) x4 _ 0 1 k rfl _ _,
    eq_at3 (a := 1) (b := 3) (c := 5632) x4 _ 0 2 k rfl _ _, eq_at2 (a := 1) (b := 5632) x5 _ 0 k rfl _]
  all_goals (dsimp only; omega)

theorem v47_at (i : S8x2048x2816.Idx) (b r k : ℕ) (h0 : (i 0).val = b) (h1 : (i 1).val = r) (h2 : (i 2).val = k) :
    val_main_v47 (F := Ideal) x0 x1 x2 x3 x4 x5 i
      = act (at3 (a := 1) (b := 3) (c := 5632) x4 0) (at2 (a := 1) (b := 5632) x5 0)
          (full (at2 (a := 16384) (b := 1024) x0) (at3 (a := 1) (b := 2) (c := 5632) x1 0)
            (at2 (a := 1) (b := 1024) x2 0) (at3 (a := 1) (b := 1024) (c := 5632) x3 0) b) r k := by
  rw [val_main_v47_apply, val_main_v45_apply, val_main_call0_v5_apply, val_main_call0_v4_apply, val_main_call0_v3_apply,
    val_main_call0_v2_apply, val_main_call0_v1_apply, val_main_call0_v0_apply, val_main_v44_apply, val_main_v46_apply,
    v43_at x0 x1 x2 x3 x4 x5 (idx_main_v44 i) b r k h0 h1 h2,
    v43_at x0 x1 x2 x3 x4 x5 (idx_main_v46 i) b r (k + 2816) h0 h1 (by show 2816 + (i 2).val = _; omega)]
  simp only [Ideal.mulf_def, Ideal.hostDivf_def, Ideal.addf_def, Ideal.hostUnary_exp_def, Ideal.hostNegf_def,
    Ideal.negf_def]
  rfl

theorem v50_at (i : S8x2048x1024.Idx) (b r k : ℕ) (h0 : (i 0).val = b) (h1 : (i 1).val = r) (h2 : (i 2).val = k) :
    val_main_v50 (F := Ideal) x0 x1 x2 x3 x4 x5 x6 i
      = down (at2 (a := 16384) (b := 1024) x0 (2048 * b + r)) (act (at3 (a := 1) (b := 3) (c := 5632) x4 0) (at2 (a := 1) (b := 5632) x5 0)
          (full (at2 (a := 16384) (b := 1024) x0) (at3 (a := 1) (b := 2) (c := 5632) x1 0)
            (at2 (a := 1) (b := 1024) x2 0) (at3 (a := 1) (b := 1024) (c := 5632) x3 0) b) r)
          (at3 (a := 1) (b := 2816) (c := 1024) x6 0) k := by
  have l2 : (i 2).val < 1024 := (i 2).isLt
  rw [val_main_v50_apply, val_main_v49_apply, v0_at x0 i b r k h0 h1 h2, Ideal.addf_def]
  unfold down
  refine congrArg (_ + ·) (Finset.sum_congr rfl fun q _ => ?_)
  have lq : q.val < 2816 := q.isLt
  rw [v47_at x0 x1 x2 x3 x4 x5 _ b r q.val h0 h1 rfl, val_main_v48_apply]
  refine congrArg (_ * ·) (eq_at3 (a := 1) (b := 2816) (c := 1024) _ _ _ _ _ rfl ?_ ?_)
  · show (q.val * 1024 + (i 2).val) / 1024 % 2816 = _; omega
  · show (q.val * 1024 + (i 2).val) % 1024 = _; omega

theorem v63_at (i : S8x2048x1024.Idx) (b r k : ℕ) (h0 : (i 0).val = b) (h1 : (i 1).val = r) (h2 : (i 2).val = k) :
    val_main_v63 (F := Ideal) x0 x1 x2 x3 x4 x5 x6 x7 i
      = rms (down (at2 (a := 16384) (b := 1024) x0 (2048 * b + r)) (act (at3 (a := 1) (b := 3) (c := 5632) x4 0) (at2 (a := 1) (b := 5632) x5 0)
          (full (at2 (a := 16384) (b := 1024) x0) (at3 (a := 1) (b := 2) (c := 5632) x1 0)
            (at2 (a := 1) (b := 1024) x2 0) (at3 (a := 1) (b := 1024) (c := 5632) x3 0) b) r)
          (at3 (a := 1) (b := 2816) (c := 1024) x6 0)) (at1 (a := 1024) x7) k := by
  rw [val_main_v63_apply, val_main_v60_apply, val_main_v59_apply, val_main_v58_apply, val_main_v57_apply,
    val_main_v55_apply, val_main_v53_apply, val_main_v52_apply, val_main_v54_apply, val_main_v56_apply,
    val_main_v62_apply, val_main_v61_apply, val_main_cst_2_apply, val_main_cst_3_apply, val_main_cst_4_apply,
    v50_at x0 x1 x2 x3 x4 x5 x6 i b r k h0 h1 h2]
  simp only [Ideal.mulf_def, Ideal.hostUnary_rsqrt_def, Ideal.addf_def, Ideal.hostDivf_def, Ideal.ofBits_def,
    Ideal.ofBits_zero_f32]
  unfold rms
  refine congrArg₂ (· * ·) (congrArg (_ * ·) (congrArg Ideal.rsqrt (congrArg (· + _) (congrArg (Ideal.div · _)
    (congrArg (0 + ·) (Finset.sum_congr rfl fun q _ => ?_)))))) (eq_at1 (a := 1024) _ _ _ h2)
  rw [val_main_v51_apply, Ideal.mulf_def, v50_at x0 x1 x2 x3 x4 x5 x6 (idx_main_v52 (idx_main_v53 (idx_main_v59 i)) q) b r q.val h0 h1 rfl]

/-- The first result. -/
theorem y_at (i : S16384x1024.Idx) :
    val_main_v64 (F := Ideal) x0 x1 x2 x3 x4 x5 x6 x7 i
      = out (at2 (a := 16384) (b := 1024) x0) (at3 (a := 1) (b := 2) (c := 5632) x1 0) (at2 (a := 1) (b := 1024) x2 0)
          (at3 (a := 1) (b := 1024) (c := 5632) x3 0) (at3 (a := 1) (b := 3) (c := 5632) x4 0)
          (at2 (a := 1) (b := 5632) x5 0) (at3 (a := 1) (b := 2816) (c := 1024) x6 0) (at1 (a := 1024) x7)
          (i 0).val (i 1).val := by
  have l0 : (i 0).val < 16384 := (i 0).isLt
  have l1 : (i 1).val < 1024 := (i 1).isLt
  rw [val_main_v64_apply, v63_at x0 x1 x2 x3 x4 x5 x6 x7 _ ((i 0).val / 2048) ((i 0).val % 2048) (i 1).val
    (by show ((i 0).val * 1024 + (i 1).val) / 2097152 = _; omega)
    (by show ((i 0).val * 1024 + (i 1).val) / 1024 % 2048 = _; omega)
    (by show ((i 0).val * 1024 + (i 1).val) % 1024 = _; omega)]
  unfold out
  rw [Nat.div_add_mod]

/-- The second result. -/
theorem tail_at (i : S8x2x5632.Idx) :
    val_main_v65 (F := Ideal) x0 x1 x2 x3 i
      = full (at2 (a := 16384) (b := 1024) x0) (at3 (a := 1) (b := 2) (c := 5632) x1 0) (at2 (a := 1) (b := 1024) x2 0)
          (at3 (a := 1) (b := 1024) (c := 5632) x3 0) (i 0).val (2048 + (i 1).val) (i 2).val := by
  rw [val_main_v65_apply]
  exact v18_at x0 x1 x2 x3 _ _ _ _ rfl rfl rfl

end Cert.ReferenceIdeal.RefValue

end
-- ==== Proof.Results.lean ====
/- The two result arrays after the run, as the reference's values of the arguments, and the two runs set side by side. -/
module

public import proofs.«01_k».proof.Defs
public import proofs.«01_k».proof.Proof.Steps
public import proofs.«01_k».proof.Proof.Obligation
public import proofs.«01_k».proof.Proof.RefValue
public import proofs.«01_k».proof.Proof.Gen.ReferenceIdeal.Run
public import proofs.«01_k».proof.Proof.Gen.ReferenceIdeal.Read

@[expose] public section

noncomputable section

namespace Cert.KernelIdeal.Body

open Cert.KernelIdeal Cert.KernelIdeal.Gen Cert.Ffn
open Idealize.ShloMosaic Idealize.ShloMosaic.TcCoe Idealize.ShloMosaic.ValueIdx Idealize.SL.Sem
open Idealize.ShloMosaic.Pipeline (Dat)

variable (m : (l : Loc nD τ sig) → Buf (Elt Ideal) l) (ρ : Dev nD → PrngReg)

theorem flush_10 : ∀ t : Fin cfg0.N, (cfg0.win 10).flush t = true → t.val < 65 ∧ ¬t.val = 0 :=
  (by decide +kernel : ∀ t : Fin grid0.N, (cfg0.win 10).flush t = true → t.val < 65 ∧ ¬t.val = 0)
theorem flush_11 : ∀ t : Fin cfg0.N, (cfg0.win 11).flush t = true → t.val < 65 ∧ t.val % 8 = 0 ∧ ¬t.val = 0 :=
  (by decide +kernel : ∀ t : Fin grid0.N, (cfg0.win 11).flush t = true → t.val < 65 ∧ t.val % 8 = 0 ∧ ¬t.val = 0)

/-- The reference's first result of the kernel's arguments. -/
abbrev yRef (c : Dev nD) : S16384x1024.Idx → EReal :=
  Cert.ReferenceIdeal.Read.val_main_v64 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
/-- The reference's second result of the kernel's arguments. -/
abbrev tailRef (c : Dev nD) : S8x2x5632.Idx → EReal :=
  Cert.ReferenceIdeal.Read.val_main_v65 (F := Ideal) (m ((c : Thread nD τ).loc main_arg0)) (m ((c : Thread nD τ).loc main_arg1))
    (m ((c : Thread nD τ).loc main_arg2)) (m ((c : Thread nD τ).loc main_arg3))

theorem final_10 (c : Dev nD) : (dats m 0 c).arrAt 10 cfg0.N = yRef m c := by
  refine (dats m 0 c).arrAt_eq_of_covers 10 _ (by decide +kernel) fun t hf y => ?_
  obtain ⟨ht, h0⟩ := flush_10 t hf
  have e0 : (((win0_10.blk t).view.emb y 0 : Fin _) : ℕ) = 256 * (t.val - 1) + (y 0).val := by blk_simp [idx_10]; simp; omega
  have e1 : (((win0_10.blk t).view.emb y 1 : Fin _) : ℕ) = (y 1).val := by blk_simp [idx_10]
  blk_simp
  rw [after0_10]
  refine (y_at m c t ht h0 y).trans ?_
  refine Eq.trans ?_ (Cert.ReferenceIdeal.RefValue.y_at _ _ _ _ _ _ _ _ _).symm
  exact congrArg₂ (out (aH m c) (aT m c) (aG m c) (aW m c) (aC m c) (aB m c) (aD m c) (aF m c)) e0.symm e1.symm

theorem final_11 (c : Dev nD) : (dats m 0 c).arrAt 11 cfg0.N = tailRef m c := by
  refine (dats m 0 c).arrAt_eq_of_covers 11 _ (by decide +kernel) fun t hf y => ?_
  obtain ⟨ht, h8, h0⟩ := flush_11 t hf
  have e0 : (((win0_11.blk t).view.emb y 0 : Fin _) : ℕ) = (t.val - 1) / 8 := by blk_simp [idx_11]
  have e1 : (((win0_11.blk t).view.emb y 1 : Fin _) : ℕ) = (y 1).val := by blk_simp [idx_11]
  have e2 : (((win0_11.blk t).view.emb y 2 : Fin _) : ℕ) = (y 2).val := by blk_simp [idx_11]
  blk_simp
  rw [after0_11]
  refine (last_at m c t ht h8 h0 y).trans ?_
  refine Eq.trans ?_ (Cert.ReferenceIdeal.RefValue.tail_at _ _ _ _ _).symm
  exact (congr (congrArg₂ (full (aH m c) (aT m c) (aG m c) (aW m c)) e0.symm (congrArg (2048 + ·) e1.symm)) e2.symm)

/-- The kernel's run: both results at the reference's values, the arguments kept. -/
theorem results : θ_run defs (onTc (τ := τ) (main (F := Ideal))) ⟨m, fun _ => 0, ρ⟩ (fun r => ∀ c : Dev nD,
      r.2.mem ((c.tc : Thread nD τ).loc main_v11_0) = yRef m c
      ∧ r.2.mem ((c.tc : Thread nD τ).loc main_v11_1) = tailRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 10).trans (final_10 m c), ((h c).1 11).trans (final_11 m c),
    ((h c).1 2).trans (((dats m 0 c).arrAt_in 2 rfl _).trans ((A_eq m c 2).trans (V_main_arg0 m c))),
    ((h c).1 5).trans (((dats m 0 c).arrAt_in 5 rfl _).trans ((A_eq m c 5).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩) (run_main m ρ)

/-- From equal arguments the two programs leave equal results. -/
theorem algebraic : Cert.algebraic_KernelIdeal_ReferenceIdeal := fun m g m' g' _ hm =>
  ⟨fun c => yRef m c, fun c => tailRef m c, results m g,
    (θ_run Cert.ReferenceIdeal.defs _ _).mono (fun r h c => by
      obtain ⟨h64, h65, hk⟩ := h c
      obtain ⟨a0, a1, a2, a3, a4, a5, a6, a7⟩ := hm c
      refine ⟨h64.trans ((Cert.ReferenceIdeal.Read.val_main_v64_eq m' c).trans ?_),
        h65.trans ((Cert.ReferenceIdeal.Read.val_main_v65_eq _ _ _ _).trans ?_), hk⟩
      · rw [a0, a1, a2, a3, a4, a5, a6, a7]
      · rw [a0, a1, a2, a3]) (Cert.ReferenceIdeal.Value.run (F := Ideal) m' g')⟩

end Cert.KernelIdeal.Body

end
-- ==== Proof.SampleForm.lean ====
/- The value forms of the sample kernel's stores, and its run's lists of stores as lists of these forms. A grid point
   handles sixteen sequences: it puts their state and their projected rows into one buffer, convolves and gates it
   in 22 blocks of 128 columns, projects down, normalises, and hands out two rows of the buffer as the new state. -/
module

public import proofs.«01_k».proof.Proof.Gen.Kernel2Ideal.Value
public import proofs.«01_k».proof.Proof.Form

@[expose] public section

set_option maxRecDepth 16384

noncomputable section

namespace Cert.Kernel2Ideal.Body

open Cert.Kernel2Ideal.Gen
open Cert.KernelIdeal.Body (pieces mem_pieces fun_three)
open Idealize.ShloMosaic Idealize.ShloMosaic.TcCoe Idealize.ShloMosaic.Tactic Idealize.SL.Sem

variable {F : FTy → Type} [FloatOps F]

/-! ## Offsets within their arrays -/

theorem inb_rows (r j : ℕ) : ∀ a, (![0, r % 9, 128 * (j % 44)] : Fin 3 → ℕ) a + S16x8x128.size a ≤ S16x16x5632.size a :=
  fun_three (by show 0 + 16 ≤ 16; omega) (by show r % 9 + 8 ≤ 16; omega) (by show 128 * (j % 44) + 128 ≤ 5632; omega)
theorem inb_tap (k j : ℕ) : ∀ a, (![k % 3, 128 * (j % 44)] : Fin 2 → ℕ) a + S1x128.size a ≤ S3x5632.size a :=
  Fin.forall_fin_two.mpr ⟨by show k % 3 + 1 ≤ 3; omega, by show 128 * (j % 44) + 128 ≤ 5632; omega⟩
theorem inb_bias (j : ℕ) : ∀ a, (![0, 128 * (j % 44)] : Fin 2 → ℕ) a + S1x128.size a ≤ S1x5632.size a :=
  Fin.forall_fin_two.mpr ⟨by show 0 + 1 ≤ 1; omega, by show 128 * (j % 44) + 128 ≤ 5632; omega⟩
theorem inb_act (k : ℕ) : ∀ a, (![0, 128 * (k % 22)] : Fin 2 → ℕ) a + S128x128.size a ≤ S128x2816.size a :=
  Fin.forall_fin_two.mpr ⟨by show 0 + 128 ≤ 128; omega, by show 128 * (k % 22) + 128 ≤ 2816; omega⟩

/-! ## The finished rows -/

/-- The sum of each of 128 rows. -/
def rowSum (x : FVec F S128x1024 .f32) : FVec F S128 .f32 :=
  multiReduction .add [1] S128 x 0x00000000#32 reduces_S128x1024_S128 (.inl rfl) rfl
/-- RMSNorm of 128 rows with a gain. -/
def rmsV (x : FVec F S128x1024 .f32) (g : FVec F S1x1024 .f32) : FVec F S128x1024 .f32 :=
  mulf (mulf x (broadcastTo S128x1024 (rsqrt (addf (divf
    (shapeCast S128x1 (rowSum (mulf x x)) shapeCasts_S128_S128x1)
    (broadcast S128x1 (Scalar.ofBits .f32 0x44800000#32))) (broadcast S128x1 (Scalar.ofBits .f32 0x3727C5AC#32)))) broadcasts_S128x1_S128x1024))
    (broadcastTo S128x1024 (shapeCast S1x1024 g shapeCasts_S1x1024_S1x1024) broadcasts_S1x1024_S128x1024)
/-- The residual rows plus the activation times the down weights, normalised. -/
def yV (h : FVec F S128x1024 .f32) (a : FVec F S128x2816 .bf16) (w : FVec F S2816x1024 .bf16) (g : FVec F S1x1024 .f32) :
    FVec F S128x1024 .f32 :=
  rmsV (addf h (matmul dot_S128x2816_S2816x1024_S128x1024_1_0_0_1_n_n none a
    (shapeCast S2816x1024 w shapeCasts_S2816x1024_S2816x1024) (constant S128x1024 .f32 0x00000000#32))) g

/-! ## The activation -/

def biasV (b : FVec F S1x128 .f32) : FVec F S16x8x128 .f32 :=
  broadcastTo S16x8x128 (shapeCast S1x1x128 (shapeCast S1x1x128 (shapeCast S1x128 b shapeCasts_S1x128_S1x128) shapeCasts_S1x128_S1x1x128)
    shapeCasts_S1x1x128_S1x1x128) broadcasts_S1x1x128_S16x8x128
def tapV (w : FVec F S1x128 .f32) (u : FVec F S16x8x128 .f32) : FVec F S16x8x128 .f32 :=
  mulf (broadcastTo S16x8x128 (shapeCast S1x1x128 (shapeCast S1x128 w shapeCasts_S1x128_S1x128) shapeCasts_S1x128_S1x1x128)
    broadcasts_S1x1x128_S16x8x128) u
/-- Three taps added to a bias, the sequences' rows one below another. -/
def convV (b : FVec F S1x128 .f32) (w : ℕ → FVec F S1x128 .f32) (u : ℕ → FVec F S16x8x128 .f32) : FVec F S128x128 .f32 :=
  shapeCast S128x128 (addf (addf (addf (biasV b) (tapV (w 0) (u 0))) (tapV (w 1) (u 1))) (tapV (w 2) (u 2))) shapeCasts_S16x8x128_S128x128
def siluV (g : FVec F S128x128 .f32) : FVec F S128x128 .f32 :=
  mulf g (divf (broadcast S128x128 (Scalar.ofBits .f32 0x3F800000#32)) (addf (broadcast S128x128 (Scalar.ofBits .f32 0x3F800000#32))
    (exp (subf (broadcast S128x128 (Scalar.ofBits .f32 0x00000000#32)) g))))
/-- Block `k` of the activation: columns `128 k`. -/
def actV (wt : ℕ → ℕ → FVec F S1x128 .f32) (bs : ℕ → FVec F S1x128 .f32) (ub : ℕ → ℕ → FVec F S16x8x128 .f32) (k : ℕ) :
    FVec F S128x128 .f32 :=
  mulf (siluV (convV (bs k) (fun q => wt q k) (fun q => ub q k))) (convV (bs (k + 22)) (fun q => wt q (k + 22)) (fun q => ub q (k + 22)))

/-! ## Loads and stores at numbered offsets -/

abbrev Ubuf := Memref sig .tc .vmem S16x16x5632 .f32

def tapL (M : Memref sig .tc .vmem S3x5632 .f32) (f : M.view.ty.Contents (Elt F)) (q j : ℕ) : FVec F S1x128 .f32 :=
  M.view.readAt (Elt F) (Rect.unit (s := S3x5632) ![q % 3, 128 * (j % 44)] S1x128.size (inb_tap q j)).toLoadRect f
def biasL (M : Memref sig .tc .vmem S1x5632 .f32) (f : M.view.ty.Contents (Elt F)) (j : ℕ) : FVec F S1x128 .f32 :=
  M.view.readAt (Elt F) (Rect.unit (s := S1x5632) ![0, 128 * (j % 44)] S1x128.size (inb_bias j)).toLoadRect f
def fullL (M : Memref sig .tc .vmem S128x1024 .f32) (f : M.view.ty.Contents (Elt F)) : FVec F S128x1024 .f32 :=
  M.view.readAt (Elt F) (Rect.unit (s := S128x1024) ![0, 0] S128x1024.size inb_S128x1024_S128x1024_0_0).toLoadRect f
def projL (M : Memref sig .tc .vmem S128x5632 .f32) (f : M.view.ty.Contents (Elt F)) : FVec F S128x5632 .f32 :=
  M.view.readAt (Elt F) (Rect.unit (s := S128x5632) ![0, 0] S128x5632.size inb_S128x5632_S128x5632_0_0).toLoadRect f
def stateL (M : Memref sig .tc .vmem S16x2x5632 .f32) (f : M.view.ty.Contents (Elt F)) : FVec F S16x2x5632 .f32 :=
  M.view.readAt (Elt F) (Rect.unit (s := S16x2x5632) ![0, 0, 0] S16x2x5632.size inb_S16x2x5632_S16x2x5632_0_0_0).toLoadRect f
def gainL (M : Memref sig .tc .vmem S1x1024 .f32) (f : M.view.ty.Contents (Elt F)) : FVec F S1x1024 .f32 :=
  M.view.readAt (Elt F) (Rect.unit (s := S1x1024) ![0, 0] S1x1024.size inb_S1x1024_S1x1024_0_0).toLoadRect f
def downL (M : Memref sig .tc .vmem S2816x1024 .bf16) (f : M.view.ty.Contents (Elt F)) : FVec F S2816x1024 .bf16 :=
  M.view.readAt (Elt F) (Rect.unit (s := S2816x1024) ![0, 0] S2816x1024.size inb_S2816x1024_S2816x1024_0_0).toLoadRect f

/-- The buffer's two stores: the state at rows 6 and 7, the projected rows from row 8. -/
def bufP (u : FVec F S128x5632 .f32) (t : FVec F S16x2x5632 .f32) : List (View.Piece (Elt F) S16x16x5632 .f32) :=
  [⟨Rect.unit (s := S16x16x5632) ![0, 8, 0] S16x8x5632.size inb_S16x16x5632_S16x8x5632_0_8_0,
      shapeCast S16x8x5632 (shapeCast S16x8x5632 u shapeCasts_S128x5632_S16x8x5632) shapeCasts_S16x8x5632_S16x8x5632⟩,
    ⟨Rect.unit (s := S16x16x5632) ![0, 6, 0] S16x2x5632.size inb_S16x16x5632_S16x2x5632_0_6_0,
      shapeCast S16x2x5632 (shapeCast S16x2x5632 t shapeCasts_S16x2x5632_S16x2x5632) shapeCasts_S16x2x5632_S16x2x5632⟩]
/-- Eight rows of every sequence of the buffer, from row `6 + q`. -/
def rowsL (M : Ubuf) (L : List (View.Piece (Elt F) S16x16x5632 .f32)) (q j : ℕ) : FVec F S16x8x128 .f32 :=
  M.view.readCov L (Rect.unit (s := S16x16x5632) ![0, (6 + q) % 9, 128 * (j % 44)] S16x8x128.size (inb_rows (6 + q) j)).toLoadRect
def actP (a : ℕ → FVec F S128x128 .f32) (k : ℕ) : View.Piece (Elt F) S128x2816 .bf16 :=
  ⟨Rect.unit (s := S128x2816) ![0, 128 * (k % 22)] S128x128.size (inb_act k),
    shapeCast S128x128 (truncf .bf16 (a k) bitsLt_bf16_f32) shapeCasts_S128x128_S128x128⟩
def yP (y : FVec F S128x1024 .f32) : View.Piece (Elt F) S128x1024 .f32 :=
  ⟨Rect.unit (s := S128x1024) ![0, 0] S128x1024.size inb_S128x1024_S128x1024_0_0, y⟩
/-- Rows 10 and 11 of every sequence of the buffer, the new state. -/
def stateP (M : Ubuf) (L : List (View.Piece (Elt F) S16x16x5632 .f32)) : View.Piece (Elt F) S16x2x5632 .f32 :=
  ⟨Rect.unit (s := S16x2x5632) ![0, 0, 0] S16x2x5632.size inb_S16x2x5632_S16x2x5632_0_0_0,
    M.view.readCov L (Rect.unit (s := S16x16x5632) ![0, 10, 0] S16x2x5632.size inb_S16x16x5632_S16x2x5632_0_10_0).toLoadRect⟩

/-! ## The run's lists -/

variable (c : Dev nD) (i : grid0.Coords)
  (arg1 : Memref sig .tc .vmem S128x5632 .f32) (harg1 : arg1.IsWhole)
  (arg2 : Memref sig .tc .vmem S128x1024 .f32) (harg2 : arg2.IsWhole)
  (arg3 : Memref sig .tc .vmem S16x2x5632 .f32) (harg3 : arg3.IsWhole)
  (arg4 : Memref sig .tc .vmem S3x5632 .f32) (harg4 : arg4.IsWhole)
  (arg5 : Memref sig .tc .vmem S1x5632 .f32) (harg5 : arg5.IsWhole)
  (arg6 : Memref sig .tc .vmem S2816x1024 .bf16) (harg6 : arg6.IsWhole)
  (arg7 : Memref sig .tc .vmem S1x1024 .f32) (harg7 : arg7.IsWhole)
  (arg8 : Memref sig .tc .vmem S128x1024 .f32) (harg8 : arg8.IsWhole)
  (arg9 : Memref sig .tc .vmem S16x2x5632 .f32) (harg9 : arg9.IsWhole)
  (arg10 : Memref sig .tc .vmem S16x16x5632 .f32) (harg10 : arg10.IsWhole)
  (arg11 : Memref sig .tc .vmem S128x2816 .bf16) (harg11 : arg11.IsWhole)
  (x0 : Vec F S128x5632 .f32) (x1 : Vec F S128x1024 .f32) (x2 : Vec F S16x2x5632 .f32) (x3 : Vec F S3x5632 .f32)
  (x4 : Vec F S1x5632 .f32) (x5 : Vec F S2816x1024 .bf16) (x6 : Vec F S1x1024 .f32)

theorem y_list :
    (kernelRun0_A c i arg1 harg1 arg2 harg2 arg3 harg3 arg4 harg4 arg5 harg5 arg6 harg6 arg7 harg7 arg8 harg8 arg9 harg9 arg10 harg10 arg11 harg11 x0 x1 x2 x3 x4 x5 x6).1
      = [yP (yV (fullL arg2 (harg2.unread x1)) (arg11.view.readCov (pieces (actP (actV (tapL arg4 (harg4.unread x3)) (biasL arg5 (harg5.unread x4))
          (rowsL arg10 (bufP (projL arg1 (harg1.unread x0)) (stateL arg3 (harg3.unread x2)))))) 22)
          (Rect.unit (s := S128x2816) ![0, 0] S128x2816.size inb_S128x2816_S128x2816_0_0).toLoadRect)
          (downL arg6 (harg6.unread x5)) (gainL arg7 (harg7.unread x6)))] := by
  sl_kernel_rfl

theorem state_list :
    (kernelRun0_A c i arg1 harg1 arg2 harg2 arg3 harg3 arg4 harg4 arg5 harg5 arg6 harg6 arg7 harg7 arg8 harg8 arg9 harg9 arg10 harg10 arg11 harg11 x0 x1 x2 x3 x4 x5 x6).2.1
      = [stateP arg10 (bufP (projL arg1 (harg1.unread x0)) (stateL arg3 (harg3.unread x2)))] := by
  sl_kernel_rfl

end Cert.Kernel2Ideal.Body

end
-- ==== Proof.SampleSpec.lean ====
/- The feed-forward half of the sample's layer after its up projection, as plain functions of row and column numbers:
   each sequence has eight rows, with two rows of its own state before them. -/
module

public import proofs.«01_k».proof.Proof.Spec

@[expose] public section

noncomputable section

open scoped BigOperators

namespace Cert.Ffn

open Idealize.ShloMosaic Idealize.ShloMosaic.ValueIdx

/-- A rank-four array read at four numbers, `0` outside it. -/
def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem eq_at4 {a b c d : ℕ} (x : (⟨4, ![a, b, c, d]⟩ : Shape).Idx → EReal) (i : (⟨4, ![a, b, c, d]⟩ : Shape).Idx)
    (p q r s : ℕ) (h0 : (i 0).val = p) (h1 : (i 1).val = q) (h2 : (i 2).val = r) (h3 : (i 3).val = s) : x i = at4 x p q r s := by
  subst h0 h1 h2 h3; have h0 : (i 0).val < a := (i 0).isLt; have h1 : (i 1).val < b := (i 1).isLt
  have h2 : (i 2).val < c := (i 2).isLt; have h3 : (i 3).val < d := (i 3).isLt
  unfold at4; rw [dif_pos ⟨h0, h1, h2, h3⟩]; exact congrArg x (eq_ix4 i)

/-- Sequence `b`'s rows: row `q` is its state's for `q < 2`, then its eight projected rows. -/
def rows (u : ℕ → ℕ → EReal) (t : ℕ → ℕ → ℕ → EReal) (b q k : ℕ) : EReal :=
  if q < 2 then t b q k else u (8 * b + (q - 2)) k

/-- The sample's result at row `r`, column `k`. -/
def sout (u h : ℕ → ℕ → EReal) (t : ℕ → ℕ → ℕ → EReal) (cw : ℕ → ℕ → EReal) (cb : ℕ → EReal)
    (wd : ℕ → ℕ → EReal) (gf : ℕ → EReal) (r k : ℕ) : EReal :=
  rms (down (h r) (act cw cb (rows u t (r / 8)) (r % 8)) wd) gf k

end Cert.Ffn

end
-- ==== Proof.SamplePayload.lean ====
/- The forms of `SampleForm`, read over the extended reals as the functions of `SampleSpec`. -/
module

public import proofs.«01_k».proof.Proof.SampleForm
public import proofs.«01_k».proof.Proof.SampleSpec
public import proofs.«01_k».proof.Proof.Reads

@[expose] public section

noncomputable section

open scoped BigOperators

namespace Cert.Kernel2Ideal.Body

open Cert.Kernel2Ideal.Gen Cert.Ffn
open Cert.KernelIdeal.Body (pieces mem_pieces fun_three cast_self rsqrt_at matmul_at emb_unit zero_off)
open Idealize.ShloMosaic Idealize.ShloMosaic.TcCoe Idealize.ShloMosaic.ValueIdx

/-! ## Rows -/

theorem rowSum_at (x : FVec Ideal S128x1024 .f32) (j : S128.Idx) :
    rowSum x j = ∑ k : Fin 1024, x (ix2 (j 0) k) := by
  unfold rowSum
  refine (Ideal.multiReduction_add_single x _ _ _ _ j).trans (Finset.sum_congr rfl fun k _ => congrArg x (funext fun a => Fin.ext ?_))
  match a with
  | ⟨0, _⟩ => rfl
  | ⟨1, _⟩ => rfl

theorem rmsV_at (x : FVec Ideal S128x1024 .f32) (g : FVec Ideal S1x1024 .f32) (i : S128x1024.Idx) (X G : ℕ → EReal)
    (hx : ∀ y : S128x1024.Idx, (y 0).val = (i 0).val → x y = X (y 1).val) (hg : ∀ y : S1x1024.Idx, g y = G (y 1).val) :
    rmsV x g i = rms X G (i 1).val := by
  have l0 : (i 0).val < 128 := (i 0).isLt
  have l1 : (i 1).val < 1024 := (i 1).isLt
  unfold rmsV rms
  rw [cast_self]
  have e1 : ∀ z : FVec Ideal S128x1 .f32, broadcastTo S128x1024 z broadcasts_S128x1_S128x1024 i = z (ix2 ⟨(i 0).val, l0⟩ 0) := fun z =>
    broadcastTo_apply _ _ _ _ fun a => by
      match a with
      | ⟨0, _⟩ => rfl
      | ⟨1, _⟩ => rfl
  have e2 : broadcastTo S128x1024 g broadcasts_S1x1024_S128x1024 i = G (i 1).val := by
    rw [broadcastTo_apply g _ i (ix2 0 ⟨(i 1).val, l1⟩) fun a => by
      match a with
      | ⟨0, _⟩ => rfl
      | ⟨1, _⟩ => rfl]
    exact hg _
  have e3 : ∀ z : FVec Ideal S128 .f32, shapeCast S128x1 z shapeCasts_S128_S128x1 (ix2 ⟨(i 0).val, l0⟩ 0) = z (ix1 ⟨(i 0).val, l0⟩) := fun z =>
    shapeCast_apply z _ _ _ rfl
  rw [mulf_apply, mulf_apply, e1, e2, rsqrt_at, addf_apply, divf_apply, e3, rowSum_at]
  rw [zero_add]
  rw [hx i rfl]
  refine congrArg (· * _) (congrArg (_ * ·) (congrArg Ideal.rsqrt (congrArg (· + _) (congrArg (Ideal.div · _)
    (Finset.sum_congr rfl fun k _ => ?_)))))
  exact (mulf_apply _ _ _).trans (congrArg₂ (· * ·) (hx _ rfl) (hx _ rfl))

/-- The finished rows. -/
theorem yV_at (h : FVec Ideal S128x1024 .f32) (a : FVec Ideal S128x2816 .bf16) (w : FVec Ideal S2816x1024 .bf16)
    (g : FVec Ideal S1x1024 .f32) (i : S128x1024.Idx) (H f G : ℕ → EReal) (W : ℕ → ℕ → EReal)
    (hh : ∀ y : S128x1024.Idx, (y 0).val = (i 0).val → h y = H (y 1).val)
    (hf : ∀ y : S128x2816.Idx, (y 0).val = (i 0).val → a y = f (y 1).val)
    (hw : ∀ y : S2816x1024.Idx, w y = W (y 0).val (y 1).val) (hg : ∀ y : S1x1024.Idx, g y = G (y 1).val) :
    yV h a w g i = rms (down H f W) G (i 1).val := by
  unfold yV
  refine rmsV_at _ g i _ _ (fun y hy => ?_) hg
  rw [addf_apply, cast_self, matmul_at, hh y hy]
  unfold down
  refine congrArg (_ + ·) ?_
  rw [← Equiv.sum_comp (contrEquiv1 dot_S128x2816_S2816x1024_S128x1024_1_0_0_1_n_n 2816 rfl rfl).symm]
  refine Finset.sum_congr rfl fun q _ => ?_
  have hq := contrEquiv1_symm_val dot_S128x2816_S2816x1024_S128x1024_1_0_0_1_n_n 2816 rfl rfl q
  exact congrArg₂ (· * ·)
    ((hf _ (by rw [← hy]; unfold DotDims.lhsIdx; rw [dif_neg (by decide), dif_pos (by decide)]; rfl)).trans
      (congrArg f ((DotDims.lhsIdx_val_of_single _ rfl _ _).trans hq)))
    ((hw _).trans (congrArg₂ W ((DotDims.rhsIdx_val_of_single _ rfl _ _).trans hq)
      (by unfold DotDims.rhsIdx; rw [dif_neg (by decide), dif_pos (by decide)]; rfl)))

/-! ## The activation -/

section Act

variable (cw : ℕ → ℕ → EReal) (cb : ℕ → EReal) (U : ℕ → ℕ → ℕ → EReal)
  (wt : ℕ → ℕ → FVec Ideal S1x128 .f32) (bs : ℕ → FVec Ideal S1x128 .f32) (ub : ℕ → ℕ → FVec Ideal S16x8x128 .f32)
  (hw : ∀ q j y, q < 3 → j < 44 → wt q j y = cw q (128 * j + (y 1).val))
  (hb : ∀ j y, j < 44 → bs j y = cb (128 * j + (y 1).val))
  (hu : ∀ q j y, q < 3 → j < 44 → ub q j y = U (y 0).val ((y 1).val + q) (128 * j + (y 2).val))

theorem row_bcast (z : FVec Ideal S1x128 .f32) (i : S16x8x128.Idx) :
    broadcastTo S16x8x128 (shapeCast S1x1x128 z shapeCasts_S1x128_S1x1x128) broadcasts_S1x1x128_S16x8x128 i
      = z (ix2 0 ⟨(i 2).val, (i 2).isLt⟩) := by
  rw [broadcastTo_apply (shapeCast S1x1x128 z shapeCasts_S1x128_S1x1x128) _ i (ix3 0 0 ⟨(i 2).val, (i 2).isLt⟩) fun a => by
    match a with
    | ⟨0, _⟩ => rfl
    | ⟨1, _⟩ => rfl
    | ⟨2, _⟩ => rfl]
  refine shapeCast_apply _ _ _ _ ?_
  rw [Shape.rowMajor_val_two, Shape.rowMajor_val_three]
  rfl

include hb in
theorem biasV_at (j : ℕ) (hj : j < 44) (i : S16x8x128.Idx) : biasV (bs j) i = cb (128 * j + (i 2).val) := by
  unfold biasV
  rw [cast_self, cast_self, row_bcast, hb j _ hj]

include hw hb hu in
theorem convV_at (j : ℕ) (hj : j < 44) (i : S128x128.Idx) :
    convV (bs j) (fun q => wt q j) (fun q => ub q j) i = conv cw cb (U ((i 0).val / 8)) ((i 0).val % 8) (128 * j + (i 1).val) := by
  have l0 : (i 0).val < 128 := (i 0).isLt
  have l1 : (i 1).val < 128 := (i 1).isLt
  unfold convV conv
  rw [shapeCast_apply _ _ i (ix3 ⟨(i 0).val / 8, by omega⟩ ⟨(i 0).val % 8, by omega⟩ ⟨(i 1).val, l1⟩) (by
    rw [Shape.rowMajor_val_two, Shape.rowMajor_val_three]
    show ((i 0).val / 8 * 8 + (i 0).val % 8) * 128 + (i 1).val = (i 0).val * 128 + (i 1).val; omega)]
  have tap : ∀ q, q < 3 → ∀ z : S16x8x128.Idx, tapV (wt q j) (ub q j) z
      = cw q (128 * j + (z 2).val) * U (z 0).val ((z 1).val + q) (128 * j + (z 2).val) := by
    intro q hq z
    unfold tapV
    rw [mulf_apply, cast_self, row_bcast, hw q j _ hq hj, hu q j _ hq hj]
  have swap : ∀ a b c d : EReal, d + a + b + c = a + b + c + d := fun a b c d => by
    rw [add_assoc, add_assoc, add_comm, ← add_assoc]
  refine Eq.trans ?_ (swap _ _ _ _)
  rw [addf_apply, addf_apply, addf_apply]
  refine congrArg₂ (· + ·) (congrArg₂ (· + ·) (congrArg₂ (· + ·) (biasV_at cb bs hb j hj _) ?_) ?_) ?_
  · exact (tap 0 (by omega) _).trans (mul_comm _ _)
  · exact (tap 1 (by omega) _).trans (mul_comm _ _)
  · exact (tap 2 (by omega) _).trans (mul_comm _ _)

theorem siluV_at (g : FVec Ideal S128x128 .f32) (i : S128x128.Idx) : siluV g i = silu (g i) := by
  unfold siluV silu
  rw [mulf_apply, divf_apply, addf_apply]
  show g i * Ideal.div (Ideal.ofBits .f32 0x3F800000#32) (Ideal.ofBits .f32 0x3F800000#32 + Ideal.exp (Ideal.ofBits .f32 0x00000000#32 - g i)) = _
  rw [Ideal.ofBits_zero_f32, zero_sub]

include hw hb hu in
theorem actV_at (k : ℕ) (hk : k < 22) (i : S128x128.Idx) :
    actV wt bs ub k i = act cw cb (U ((i 0).val / 8)) ((i 0).val % 8) (128 * k + (i 1).val) := by
  unfold actV act
  rw [mulf_apply, siluV_at, convV_at cw cb U wt bs ub hw hb hu k (by omega) i,
    convV_at cw cb U wt bs ub hw hb hu (k + 22) (by omega) i,
    show 128 * (k + 22) + (i 1).val = 128 * k + (i 1).val + 2816 by omega]

end Act

/-! ## Loads -/

theorem tapL_at (M : Memref sig .tc .vmem S3x5632 .f32) (hM : M.IsWhole) (x : Vec Ideal S3x5632 .f32) (cw : ℕ → ℕ → EReal)
    (hx : ∀ y : S3x5632.Idx, x y = cw (y 0).val (y 1).val) (q j : ℕ) (hq : q < 3) (hj : j < 44) (y : S1x128.Idx) :
    tapL (F := Ideal) M (hM.unread x) q j y = cw q (128 * j + (y 1).val) := by
  have l0 : (y 0).val < 1 := (y 0).isLt
  refine (congrFun (hM.read_unread x) _).trans ((hx _).trans (congrArg₂ cw
    ((emb_unit (s := S3x5632) ![q % 3, 128 * (j % 44)] S1x128.size (inb_tap q j) y 0).trans ?_) ((emb_unit (s := S3x5632) ![q % 3, 128 * (j % 44)] S1x128.size (inb_tap q j) y 1).trans ?_)))
  · show q % 3 + (y 0).val = q; omega
  · show 128 * (j % 44) + (y 1).val = _; rw [Nat.mod_eq_of_lt hj]

theorem biasL_at (M : Memref sig .tc .vmem S1x5632 .f32) (hM : M.IsWhole) (x : Vec Ideal S1x5632 .f32) (cb : ℕ → EReal)
    (hx : ∀ y : S1x5632.Idx, x y = cb (y 1).val) (j : ℕ) (hj : j < 44) (y : S1x128.Idx) :
    biasL (F := Ideal) M (hM.unread x) j y = cb (128 * j + (y 1).val) := by
  refine (congrFun (hM.read_unread x) _).trans ((hx _).trans (congrArg cb
    ((emb_unit (s := S1x5632) ![0, 128 * (j % 44)] S1x128.size (inb_bias j) y 1).trans ?_)))
  show 128 * (j % 44) + (y 1).val = _; rw [Nat.mod_eq_of_lt hj]

theorem zero_off3 (a : Fin 3) (n : ℕ) : (![0, 0, 0] : Fin 3 → ℕ) a + n = n := by
  match a with
  | ⟨0, _⟩ => exact Nat.zero_add _
  | ⟨1, _⟩ => exact Nat.zero_add _
  | ⟨2, _⟩ => exact Nat.zero_add _

theorem fullL_eq (M : Memref sig .tc .vmem S128x1024 .f32) (hM : M.IsWhole) (x : Vec Ideal S128x1024 .f32) :
    fullL (F := Ideal) M (hM.unread x) = x := by
  funext y
  refine (congrFun (hM.read_unread x) _).trans (congrArg x (funext fun a => Fin.ext ((emb_unit _ _ inb_S128x1024_S128x1024_0_0 y a).trans ?_)))
  exact zero_off a _

theorem projL_eq (M : Memref sig .tc .vmem S128x5632 .f32) (hM : M.IsWhole) (x : Vec Ideal S128x5632 .f32) :
    projL (F := Ideal) M (hM.unread x) = x := by
  funext y
  refine (congrFun (hM.read_unread x) _).trans (congrArg x (funext fun a => Fin.ext ((emb_unit _ _ inb_S128x5632_S128x5632_0_0 y a).trans ?_)))
  exact zero_off a _

theorem stateL_eq (M : Memref sig .tc .vmem S16x2x5632 .f32) (hM : M.IsWhole) (x : Vec Ideal S16x2x5632 .f32) :
    stateL (F := Ideal) M (hM.unread x) = x := by
  funext y
  refine (congrFun (hM.read_unread x) _).trans (congrArg x (funext fun a => Fin.ext ((emb_unit _ _ inb_S16x2x5632_S16x2x5632_0_0_0 y a).trans ?_)))
  exact zero_off3 a _

theorem gainL_eq (M : Memref sig .tc .vmem S1x1024 .f32) (hM : M.IsWhole) (x : Vec Ideal S1x1024 .f32) :
    gainL (F := Ideal) M (hM.unread x) = x := by
  funext y
  refine (congrFun (hM.read_unread x) _).trans (congrArg x (funext fun a => Fin.ext ((emb_unit _ _ inb_S1x1024_S1x1024_0_0 y a).trans ?_)))
  exact zero_off a _

theorem downL_eq (M : Memref sig .tc .vmem S2816x1024 .bf16) (hM : M.IsWhole) (x : Vec Ideal S2816x1024 .bf16) :
    downL (F := Ideal) M (hM.unread x) = x := by
  funext y
  refine (congrFun (hM.read_unread x) _).trans (congrArg x (funext fun a => Fin.ext ((emb_unit _ _ inb_S2816x1024_S2816x1024_0_0 y a).trans ?_)))
  exact zero_off a _

/-! ## The buffer -/

section Buffer

variable (M : Ubuf) (x0 : FVec Ideal S128x5632 .f32) (x2 : FVec Ideal S16x2x5632 .f32) (n : ℕ) (u : ℕ → ℕ → EReal) (t : ℕ → ℕ → ℕ → EReal)
  (h0 : ∀ y : S128x5632.Idx, x0 y = u (128 * n + (y 0).val) (y 1).val)
  (h2 : ∀ y : S16x2x5632.Idx, x2 y = t (16 * n + (y 0).val) (y 1).val (y 2).val)

include h0 h2 in
theorem buf_read (i : S16x16x5632.Idx) (b q k : ℕ) (e0 : (i 0).val = b) (e1 : (i 1).val = 6 + q) (e2 : (i 2).val = k) (hq : q < 10) :
    M.view.read (Elt Ideal) (M.view.writes (Elt Ideal) M.view.junk (bufP (F := Ideal) x0 x2)) i = rows u t (16 * n + b) q k := by
  have l0 : (i 0).val < 16 := (i 0).isLt
  have l2 : (i 2).val < 5632 := (i 2).isLt
  refine (View.read_writes_apply_of_pieces (v := M.view) (f := M.view.junk)
    (G := fun i : S16x16x5632.Idx => rows u t (16 * n + (i 0).val) ((i 1).val - 6) (i 2).val) _ ?_ i ?_).trans ?_
  · intro p hp y
    rcases List.mem_cons.mp hp with rfl | hp
    · have y0 : (y 0).val < 16 := (y 0).isLt
      have y1 : (y 1).val < 8 := (y 1).isLt
      have y2 : (y 2).val < 5632 := (y 2).isLt
      have a0 := emb_unit (s := S16x16x5632) ![0, 8, 0] S16x8x5632.size inb_S16x16x5632_S16x8x5632_0_8_0 y 0
      have a1 := emb_unit (s := S16x16x5632) ![0, 8, 0] S16x8x5632.size inb_S16x16x5632_S16x8x5632_0_8_0 y 1
      have a2 := emb_unit (s := S16x16x5632) ![0, 8, 0] S16x8x5632.size inb_S16x16x5632_S16x8x5632_0_8_0 y 2
      show shapeCast S16x8x5632 (shapeCast S16x8x5632 x0 shapeCasts_S128x5632_S16x8x5632) shapeCasts_S16x8x5632_S16x8x5632 y = rows u t (16 * n + _) (_ - 6) _
      rw [a0, a1, a2]
      refine (congrFun (cast_self _ _) y).trans ((shapeCast_apply x0 _ y (ix2 ⟨8 * (y 0).val + (y 1).val, by omega⟩ ⟨(y 2).val, y2⟩) (by
        rw [Shape.rowMajor_val_two, Shape.rowMajor_val_three]
        show (8 * (y 0).val + (y 1).val) * 5632 + (y 2).val = ((y 0).val * 8 + (y 1).val) * 5632 + (y 2).val; omega)).trans ((h0 _).trans ?_))
      show u (128 * n + (8 * (y 0).val + (y 1).val)) (y 2).val = rows u t (16 * n + (0 + (y 0).val)) (8 + (y 1).val - 6) (0 + (y 2).val)
      unfold rows
      rw [if_neg (by omega)]
      exact congrArg₂ u (by omega) (by omega)
    · obtain rfl := List.mem_singleton.mp hp
      have y1 : (y 1).val < 2 := (y 1).isLt
      have a0 := emb_unit (s := S16x16x5632) ![0, 6, 0] S16x2x5632.size inb_S16x16x5632_S16x2x5632_0_6_0 y 0
      have a1 := emb_unit (s := S16x16x5632) ![0, 6, 0] S16x2x5632.size inb_S16x16x5632_S16x2x5632_0_6_0 y 1
      have a2 := emb_unit (s := S16x16x5632) ![0, 6, 0] S16x2x5632.size inb_S16x16x5632_S16x2x5632_0_6_0 y 2
      show shapeCast S16x2x5632 (shapeCast S16x2x5632 x2 shapeCasts_S16x2x5632_S16x2x5632) shapeCasts_S16x2x5632_S16x2x5632 y = rows u t (16 * n + _) (_ - 6) _
      rw [a0, a1, a2]
      refine (congrFun (cast_self _ _) y).trans ((congrFun (cast_self _ _) y).trans ((h2 y).trans ?_))
      show t (16 * n + (y 0).val) (y 1).val (y 2).val = rows u t (16 * n + (0 + (y 0).val)) (6 + (y 1).val - 6) (0 + (y 2).val)
      unfold rows
      rw [if_pos (by omega), Nat.zero_add, Nat.zero_add, Nat.add_sub_cancel_left]
  · by_cases h : q < 2
    · refine ⟨_, List.mem_cons_of_mem _ (List.mem_singleton.mpr rfl), (Rect.mem_set_unit (inb := inb_S16x16x5632_S16x2x5632_0_6_0)).mpr (fun_three ?_ ?_ ?_)⟩
      · show 0 ≤ (i 0).val ∧ (i 0).val < 0 + 16; omega
      · show 6 ≤ (i 1).val ∧ (i 1).val < 6 + 2; omega
      · show 0 ≤ (i 2).val ∧ (i 2).val < 0 + 5632; omega
    · refine ⟨_, List.mem_cons_self, (Rect.mem_set_unit (inb := inb_S16x16x5632_S16x8x5632_0_8_0)).mpr (fun_three ?_ ?_ ?_)⟩
      · show 0 ≤ (i 0).val ∧ (i 0).val < 0 + 16; omega
      · show 8 ≤ (i 1).val ∧ (i 1).val < 8 + 8; omega
      · show 0 ≤ (i 2).val ∧ (i 2).val < 0 + 5632; omega
  · show rows u t (16 * n + (i 0).val) ((i 1).val - 6) (i 2).val = _
    rw [e0, e1, e2, Nat.add_sub_cancel_left]

include h0 h2 in
theorem rowsL_at (q j : ℕ) (hq : q < 3) (hj : j < 44) (y : S16x8x128.Idx) :
    rowsL (F := Ideal) M (bufP (F := Ideal) x0 x2) q j y = rows u t (16 * n + (y 0).val) ((y 1).val + q) (128 * j + (y 2).val) := by
  have l1 : (y 1).val < 8 := (y 1).isLt
  refine buf_read M x0 x2 n u t h0 h2 _ _ _ _
    ((emb_unit (s := S16x16x5632) ![0, (6 + q) % 9, 128 * (j % 44)] S16x8x128.size (inb_rows (6 + q) j) y 0).trans (Nat.zero_add _))
    ((emb_unit (s := S16x16x5632) ![0, (6 + q) % 9, 128 * (j % 44)] S16x8x128.size (inb_rows (6 + q) j) y 1).trans ?_)
    ((emb_unit (s := S16x16x5632) ![0, (6 + q) % 9, 128 * (j % 44)] S16x8x128.size (inb_rows (6 + q) j) y 2).trans ?_) (by omega)
  · show (6 + q) % 9 + (y 1).val = _; omega
  · show 128 * (j % 44) + (y 2).val = _; rw [Nat.mod_eq_of_lt hj]

include h0 h2 in
theorem state_read (v : View sig .tc .vmem S16x2x5632 .f32) (f : v.ty.Contents (Elt Ideal)) (i : S16x2x5632.Idx) :
    v.read (Elt Ideal) (v.writes (Elt Ideal) f [stateP (F := Ideal) M (bufP (F := Ideal) x0 x2)]) i
      = rows u t (16 * n + (i 0).val) (4 + (i 1).val) (i 2).val := by
  refine (View.read_writes_apply_of_pieces (v := v) (f := f)
    (G := fun i : S16x2x5632.Idx => rows u t (16 * n + (i 0).val) (4 + (i 1).val) (i 2).val) _ ?_ i ?_).trans rfl
  · intro p hp y
    obtain rfl := List.mem_singleton.mp hp
    have y1 : (y 1).val < 2 := (y 1).isLt
    have a0 := emb_unit (s := S16x2x5632) ![0, 0, 0] S16x2x5632.size inb_S16x2x5632_S16x2x5632_0_0_0 y 0
    have a1 := emb_unit (s := S16x2x5632) ![0, 0, 0] S16x2x5632.size inb_S16x2x5632_S16x2x5632_0_0_0 y 1
    have a2 := emb_unit (s := S16x2x5632) ![0, 0, 0] S16x2x5632.size inb_S16x2x5632_S16x2x5632_0_0_0 y 2
    have e : rows u t (16 * n + ((Rect.unit (s := S16x2x5632) ![0, 0, 0] S16x2x5632.size inb_S16x2x5632_S16x2x5632_0_0_0).emb y 0).val)
        (4 + ((Rect.unit (s := S16x2x5632) ![0, 0, 0] S16x2x5632.size inb_S16x2x5632_S16x2x5632_0_0_0).emb y 1).val)
        ((Rect.unit (s := S16x2x5632) ![0, 0, 0] S16x2x5632.size inb_S16x2x5632_S16x2x5632_0_0_0).emb y 2).val
        = rows u t (16 * n + (0 + (y 0).val)) (4 + (0 + (y 1).val)) (0 + (y 2).val) :=
      congr (congrArg₂ (rows u t) (congrArg (16 * n + ·) a0) (congrArg (4 + ·) a1)) a2
    refine Eq.trans ?_ e.symm
    refine buf_read M x0 x2 n u t h0 h2 _ _ _ _
      (emb_unit (s := S16x16x5632) ![0, 10, 0] S16x2x5632.size inb_S16x16x5632_S16x2x5632_0_10_0 y 0)
      ((emb_unit (s := S16x16x5632) ![0, 10, 0] S16x2x5632.size inb_S16x16x5632_S16x2x5632_0_10_0 y 1).trans ?_)
      (emb_unit (s := S16x16x5632) ![0, 10, 0] S16x2x5632.size inb_S16x16x5632_S16x2x5632_0_10_0 y 2) ?_
    · show 10 + (y 1).val = 6 + (4 + (0 + (y 1).val)); omega
    · show 4 + (0 + (y 1).val) < 10; omega
  · exact ⟨_, List.mem_singleton.mpr rfl, (Rect.mem_set_unit (inb := inb_S16x2x5632_S16x2x5632_0_0_0)).mpr fun a =>
      ⟨by rw [show (![0, 0, 0] : Fin 3 → ℕ) a = 0 from zero_off3 a 0]; exact Nat.zero_le _,
       by rw [show (![0, 0, 0] : Fin 3 → ℕ) a = 0 from zero_off3 a 0, Nat.zero_add]; exact (i a).isLt⟩⟩

end Buffer

/-! ## What the stores leave -/

theorem act_read (A : Memref sig .tc .vmem S128x2816 .bf16) (f : ℕ → ℕ → EReal) (a : ℕ → FVec Ideal S128x128 .f32)
    (ha : ∀ k, k < 22 → ∀ i : S128x128.Idx, a k i = f (i 0).val (128 * k + (i 1).val)) (y : S128x2816.Idx) :
    A.view.readCov (pieces (actP (F := Ideal) a) 22) (Rect.unit (s := S128x2816) ![0, 0] S128x2816.size inb_S128x2816_S128x2816_0_0).toLoadRect y
      = f (y 0).val (y 1).val := by
  have l0 : (y 0).val < 128 := (y 0).isLt
  have l1 : (y 1).val < 2816 := (y 1).isLt
  have ey : (Rect.unit (s := S128x2816) ![0, 0] S128x2816.size inb_S128x2816_S128x2816_0_0).emb y = y := funext fun a =>
    Fin.ext ((emb_unit _ _ inb_S128x2816_S128x2816_0_0 y a).trans (zero_off a _))
  show A.view.read (Elt Ideal) (A.view.writes (Elt Ideal) A.view.junk (pieces (actP (F := Ideal) a) 22))
    ((Rect.unit (s := S128x2816) ![0, 0] S128x2816.size inb_S128x2816_S128x2816_0_0).emb y) = _
  rw [ey]
  refine (View.read_writes_apply_of_pieces (v := A.view) (f := A.view.junk)
    (G := fun i : S128x2816.Idx => f (i 0).val (i 1).val) _ ?_ y ?_).trans rfl
  · intro p hp z
    obtain ⟨k, hk, rfl⟩ := (mem_pieces _ _ _).mp hp
    have e0 : ((actP (F := Ideal) a k).1.emb z 0).val = (z 0).val := (emb_unit _ _ (inb_act k) z 0).trans (Nat.zero_add _)
    have e1 : ((actP (F := Ideal) a k).1.emb z 1).val = 128 * k + (z 1).val := (emb_unit _ _ (inb_act k) z 1).trans (by
      show 128 * (k % 22) + (z 1).val = _; rw [Nat.mod_eq_of_lt hk])
    show _ = f _ _
    rw [e0, e1, ← ha k hk z]
    exact congrFun (cast_self _ _) z
  · refine ⟨_, (mem_pieces _ _ _).mpr ⟨(y 1).val / 128, by omega, rfl⟩,
      (Rect.mem_set_unit (inb := inb_act ((y 1).val / 128))).mpr (Fin.forall_fin_two.mpr ⟨?_, ?_⟩)⟩
    · show 0 ≤ (y 0).val ∧ (y 0).val < 0 + 128; omega
    · show 128 * ((y 1).val / 128 % 22) ≤ (y 1).val ∧ (y 1).val < 128 * ((y 1).val / 128 % 22) + 128; omega

/-- A block of finished rows stored whole reads back. -/
theorem one_read (v : View sig .tc .vmem S128x1024 .f32) (f : v.ty.Contents (Elt Ideal)) (y : FVec Ideal S128x1024 .f32) (i : S128x1024.Idx) :
    v.read (Elt Ideal) (v.writes (Elt Ideal) f [yP (F := Ideal) y]) i = y i := by
  refine View.read_writes_apply_of_pieces (v := v) (f := f) (G := y) _ ?_ i ?_
  · intro p hp z
    obtain rfl := List.mem_singleton.mp hp
    exact congrArg y (funext fun a => Fin.ext (((emb_unit (s := S128x1024) ![0, 0] S128x1024.size inb_S128x1024_S128x1024_0_0 z a).trans (zero_off a _)).symm))
  · exact ⟨_, List.mem_singleton.mpr rfl, (Rect.mem_set_unit (inb := inb_S128x1024_S128x1024_0_0)).mpr fun a =>
      ⟨by rw [show (![0, 0] : Fin 2 → ℕ) a = 0 from zero_off a 0]; exact Nat.zero_le _,
       by rw [show (![0, 0] : Fin 2 → ℕ) a = 0 from zero_off a 0, Nat.zero_add]; exact (i a).isLt⟩⟩

/-! ## A point's two outputs -/

section Point

variable {c : Dev nD} {i : grid0.Coords}
  {arg1 : Memref sig .tc .vmem S128x5632 .f32} {harg1 : arg1.IsWhole}
  {arg2 : Memref sig .tc .vmem S128x1024 .f32} {harg2 : arg2.IsWhole}
  {arg3 : Memref sig .tc .vmem S16x2x5632 .f32} {harg3 : arg3.IsWhole}
  {arg4 : Memref sig .tc .vmem S3x5632 .f32} {harg4 : arg4.IsWhole}
  {arg5 : Memref sig .tc .vmem S1x5632 .f32} {harg5 : arg5.IsWhole}
  {arg6 : Memref sig .tc .vmem S2816x1024 .bf16} {harg6 : arg6.IsWhole}
  {arg7 : Memref sig .tc .vmem S1x1024 .f32} {harg7 : arg7.IsWhole}
  {arg8 : Memref sig .tc .vmem S128x1024 .f32} {harg8 : arg8.IsWhole}
  {arg9 : Memref sig .tc .vmem S16x2x5632 .f32} {harg9 : arg9.IsWhole}
  {arg10 : Memref sig .tc .vmem S16x16x5632 .f32} {harg10 : arg10.IsWhole}
  {arg11 : Memref sig .tc .vmem S128x2816 .bf16} {harg11 : arg11.IsWhole}
  {x0 : Vec Ideal S128x5632 .f32} {x1 : Vec Ideal S128x1024 .f32} {x2 : Vec Ideal S16x2x5632 .f32} {x3 : Vec Ideal S3x5632 .f32}
  {x4 : Vec Ideal S1x5632 .f32} {x5 : Vec Ideal S2816x1024 .bf16} {x6 : Vec Ideal S1x1024 .f32}
  (n : ℕ) (u h : ℕ → ℕ → EReal) (t : ℕ → ℕ → ℕ → EReal) (cw : ℕ → ℕ → EReal) (cb : ℕ → EReal) (wd : ℕ → ℕ → EReal) (gf : ℕ → EReal)
  (h0 : ∀ y : S128x5632.Idx, x0 y = u (128 * n + (y 0).val) (y 1).val)
  (h1 : ∀ y : S128x1024.Idx, x1 y = h (128 * n + (y 0).val) (y 1).val)
  (h2 : ∀ y : S16x2x5632.Idx, x2 y = t (16 * n + (y 0).val) (y 1).val (y 2).val)
  (h3 : ∀ y : S3x5632.Idx, x3 y = cw (y 0).val (y 1).val)
  (h4 : ∀ y : S1x5632.Idx, x4 y = cb (y 1).val)
  (h5 : ∀ y : S2816x1024.Idx, x5 y = wd (y 0).val (y 1).val)
  (h6 : ∀ y : S1x1024.Idx, x6 y = gf (y 1).val)

include h0 h1 h2 h3 h4 h5 h6 in
theorem y_point (k : S128x1024.Idx) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 k
      = sout u h t cw cb wd gf (128 * n + (k 0).val) (k 1).val := by
  have l0 : (k 0).val < 128 := (k 0).isLt
  unfold out0_A_7
  rw [y_list, one_read, fullL_eq, gainL_eq, downL_eq, projL_eq, stateL_eq]
  unfold sout
  refine yV_at _ _ _ _ k _ _ _ _ (fun y hy => ?_) (fun y hy => ?_) h5 h6
  · rw [h1 y, hy]
  · refine (act_read arg11 (fun p q => act cw cb (fun a b => rows u t (16 * n + p / 8) a b) (p % 8) q) _ (fun j hj z =>
      actV_at cw cb (fun b a e => rows u t (16 * n + b) a e) _ _ _
        (fun q j y hq hj => tapL_at arg4 harg4 x3 cw h3 q j hq hj y) (fun j y hj => biasL_at arg5 harg5 x4 cb h4 j hj y)
        (fun q j y hq hj => rowsL_at arg10 x0 x2 n u t h0 h2 q j hq hj y) j hj z) y).trans ?_
    rw [hy, show (128 * n + (k 0).val) / 8 = 16 * n + (k 0).val / 8 by omega, show (128 * n + (k 0).val) % 8 = (k 0).val % 8 by omega]

include h0 h2 in
theorem state_point (k : S16x2x5632.Idx) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 k
      = rows u t (16 * n + (k 0).val) (4 + (k 1).val) (k 2).val := by
  unfold out0_A_8
  rw [state_list, projL_eq, stateL_eq]
  exact state_read arg10 x0 x2 n u t h0 h2 _ _ k

end Point

end Cert.Kernel2Ideal.Body

end
-- ==== Proof.SampleRef.lean ====
/- The sample reference's two results, read as the functions of `SampleSpec`. -/
module

public import proofs.«01_k».proof.Proof.Gen.Reference2Ideal.Read
public import proofs.«01_k».proof.Proof.SampleSpec

@[expose] public section

noncomputable section

open scoped BigOperators

namespace Cert.Reference2Ideal.RefValue

open Cert.Reference2Ideal Cert.Reference2Ideal.Read Cert.Ffn Idealize.ShloMosaic Idealize.ShloMosaic.ValueIdx

variable (x0 : (⟨S1024x5632, .f32⟩ : BufTy).Contents (Elt Ideal)) (x1 : (⟨S1024x1024, .f32⟩ : BufTy).Contents (Elt Ideal))
  (x2 : (⟨S1x128x2x5632, .f32⟩ : BufTy).Contents (Elt Ideal)) (x3 : (⟨S1x3x5632, .f32⟩ : BufTy).Contents (Elt Ideal))
  (x4 : (⟨S1x5632, .f32⟩ : BufTy).Contents (Elt Ideal)) (x5 : (⟨S1x2816x1024, .f32⟩ : BufTy).Contents (Elt Ideal))
  (x6 : (⟨S1024, .f32⟩ : BufTy).Contents (Elt Ideal))

/-- The reference's rows of all sequences. -/
abbrev rowsR (b q k : ℕ) : EReal :=
  rows (at2 (a := 1024) (b := 5632) x0) (at4 (a := 1) (b := 128) (c := 2) (d := 5632) x2 0) b q k

theorem v0_at (i : S128x8x1024.Idx) (b r k : ℕ) (h0 : (i 0).val = b) (h1 : (i 1).val = r) (h2 : (i 2).val = k) :
    val_main_v0 (F := Ideal) x1 i = at2 (a := 1024) (b := 1024) x1 (8 * b + r) k := by
  have l2 : (i 2).val < 1024 := (i 2).isLt
  rw [val_main_v0_apply]
  refine eq_at2 (a := 1024) (b := 1024) _ _ _ _ ?_ ?_
  · show (((i 0).val * 8 + (i 1).val) * 1024 + (i 2).val) / 1024 = _; omega
  · show (((i 0).val * 8 + (i 1).val) * 1024 + (i 2).val) % 1024 = _; omega

/-- The rows with the state before them. -/
theorem v3_at (i : S128x10x5632.Idx) (b q k : ℕ) (h0 : (i 0).val = b) (h1 : (i 1).val = q) (h2 : (i 2).val = k) :
    val_main_v3 (F := Ideal) x0 x2 i = rowsR x0 x2 b q k := by
  have l0 : (i 0).val < 128 := (i 0).isLt
  have l1 : (i 1).val < 10 := (i 1).isLt
  have l2 : (i 2).val < 5632 := (i 2).isLt
  unfold val_main_v3 rowsR rows
  by_cases hq : q < 2
  · rw [if_pos hq]
    rw [concatenate_pair_apply_left (t := S128x10x5632) (s₁ := S128x2x5632) (s₂ := S128x8x5632) 1 _ _ _ i rfl
      (ix3 ⟨(i 0).val, l0⟩ ⟨(i 1).val, by omega⟩ ⟨(i 2).val, l2⟩)
      (fun d => match d with | ⟨0, _⟩ => rfl | ⟨1, _⟩ => rfl | ⟨2, _⟩ => rfl)]
    rw [val_main_v1_apply]
    refine eq_at4 (a := 1) (b := 128) (c := 2) (d := 5632) _ _ _ _ _ _ rfl ?_ ?_ ?_
    · show (((i 0).val * 2 + (i 1).val) * 5632 + (i 2).val) / 11264 % 128 = _; omega
    · show (((i 0).val * 2 + (i 1).val) * 5632 + (i 2).val) / 5632 % 2 = _; omega
    · show (((i 0).val * 2 + (i 1).val) * 5632 + (i 2).val) % 5632 = _; omega
  · rw [if_neg hq]
    rw [concatenate_pair_apply_right (t := S128x10x5632) (s₁ := S128x2x5632) (s₂ := S128x8x5632) 1 _ _ _ i rfl rfl
      (ix3 ⟨(i 0).val, l0⟩ ⟨(i 1).val - 2, by omega⟩ ⟨(i 2).val, l2⟩)
      (fun d => match d with | ⟨0, _⟩ => fun _ => rfl | ⟨1, _⟩ => fun h => absurd rfl h | ⟨2, _⟩ => fun _ => rfl)
      (by show (i 1).val - 2 + 2 = (i 1).val; omega)]
    rw [val_main_v2_apply]
    refine eq_at2 (a := 1024) (b := 5632) _ _ _ _ ?_ ?_
    · show (((i 0).val * 8 + ((i 1).val - 2)) * 5632 + (i 2).val) / 5632 = _; omega
    · show (((i 0).val * 8 + ((i 1).val - 2)) * 5632 + (i 2).val) % 5632 = _; omega

theorem v28_at (i : S128x8x5632.Idx) (b r k : ℕ) (h0 : (i 0).val = b) (h1 : (i 1).val = r) (h2 : (i 2).val = k) :
    val_main_v28 (F := Ideal) x0 x2 x3 x4 i
      = conv (at3 (a := 1) (b := 3) (c := 5632) x3 0) (at2 (a := 1) (b := 5632) x4 0) (rowsR x0 x2 b) r k := by
  have l2 : (i 2).val < 5632 := (i 2).isLt
  rw [val_main_v28_apply, val_main_v24_apply, val_main_v17_apply, val_main_v10_apply, val_main_v16_apply,
    val_main_v23_apply, val_main_v5_apply, val_main_v11_apply, val_main_v18_apply, val_main_v9_apply,
    val_main_v8_apply, val_main_v7_apply, val_main_v6_apply, val_main_v4_apply, val_main_v15_apply,
    val_main_v14_apply, val_main_v13_apply, val_main_v12_apply, val_main_v4_apply, val_main_v22_apply,
    val_main_v21_apply, val_main_v20_apply, val_main_v19_apply, val_main_v4_apply, val_main_v27_apply,
    val_main_v26_apply, val_main_v25_apply]
  simp only [Ideal.addf_def, Ideal.mulf_def]
  unfold conv
  rw [v3_at x0 x2 (idx_main_v5 i) b r k h0 h1 h2,
    v3_at x0 x2 (idx_main_v11 i) b (r + 1) k h0 (by show 1 + (i 1).val = _; omega) h2,
    v3_at x0 x2 (idx_main_v18 i) b (r + 2) k h0 (by show 2 + (i 1).val = _; omega) h2]
  rw [eq_at3 (a := 1) (b := 3) (c := 5632) x3 _ 0 0 k rfl _ _, eq_at3 (a := 1) (b := 3) (c := 5632) x3 _ 0 1 k rfl _ _,
    eq_at3 (a := 1) (b := 3) (c := 5632) x3 _ 0 2 k rfl _ _, eq_at2 (a := 1) (b := 5632) x4 _ 0 k rfl _]
  all_goals (dsimp only; omega)

theorem v32_at (i : S128x8x2816.Idx) (b r k : ℕ) (h0 : (i 0).val = b) (h1 : (i 1).val = r) (h2 : (i 2).val = k) :
    val_main_v32 (F := Ideal) x0 x2 x3 x4 i
      = act (at3 (a := 1) (b := 3) (c := 5632) x3 0) (at2 (a := 1) (b := 5632) x4 0) (rowsR x0 x2 b) r k := by
  rw [val_main_v32_apply, val_main_v30_apply, val_main_call0_v5_apply, val_main_call0_v4_apply, val_main_call0_v3_apply,
    val_main_call0_v2_apply, val_main_call0_v1_apply, val_main_call0_v0_apply, val_main_v29_apply, val_main_v31_apply,
    v28_at x0 x2 x3 x4 (idx_main_v29 i) b r k h0 h1 h2,
    v28_at x0 x2 x3 x4 (idx_main_v31 i) b r (k + 2816) h0 h1 (by show 2816 + (i 2).val = _; omega)]
  simp only [Ideal.mulf_def, Ideal.hostDivf_def, Ideal.addf_def, Ideal.hostUnary_exp_def, Ideal.hostNegf_def,
    Ideal.negf_def]
  rfl

/-- The residual and the down projection of row `r` of sequence `b`. -/
abbrev downR (b r k : ℕ) : EReal :=
  down (at2 (a := 1024) (b := 1024) x1 (8 * b + r)) (act (at3 (a := 1) (b := 3) (c := 5632) x3 0) (at2 (a := 1) (b := 5632) x4 0)
    (rowsR x0 x2 b) r) (at3 (a := 1) (b := 2816) (c := 1024) x5 0) k

theorem v35_at (i : S128x8x1024.Idx) (b r k : ℕ) (h0 : (i 0).val = b) (h1 : (i 1).val = r) (h2 : (i 2).val = k) :
    val_main_v35 (F := Ideal) x0 x1 x2 x3 x4 x5 i = downR x0 x1 x2 x3 x4 x5 b r k := by
  have l2 : (i 2).val < 1024 := (i 2).isLt
  rw [val_main_v35_apply, val_main_v34_apply, v0_at x1 i b r k h0 h1 h2, Ideal.addf_def]
  unfold downR down
  refine congrArg (_ + ·) (Finset.sum_congr rfl fun q _ => ?_)
  have lq : q.val < 2816 := q.isLt
  rw [v32_at x0 x2 x3 x4 _ b r q.val h0 h1 rfl, val_main_v33_apply]
  refine congrArg (_ * ·) (eq_at3 (a := 1) (b := 2816) (c := 1024) _ _ _ _ _ rfl ?_ ?_)
  · show (q.val * 1024 + (i 2).val) / 1024 % 2816 = _; omega
  · show (q.val * 1024 + (i 2).val) % 1024 = _; omega

theorem v48_at (i : S128x8x1024.Idx) (b r k : ℕ) (h0 : (i 0).val = b) (h1 : (i 1).val = r) (h2 : (i 2).val = k) :
    val_main_v48 (F := Ideal) x0 x1 x2 x3 x4 x5 x6 i = rms (downR x0 x1 x2 x3 x4 x5 b r) (at1 (a := 1024) x6) k := by
  rw [val_main_v48_apply, val_main_v45_apply, val_main_v44_apply, val_main_v43_apply, val_main_v42_apply,
    val_main_v40_apply, val_main_v38_apply, val_main_v37_apply, val_main_v39_apply, val_main_v41_apply,
    val_main_v47_apply, val_main_v46_apply, val_main_cst_apply, val_main_cst_0_apply, val_main_cst_1_apply,
    v35_at x0 x1 x2 x3 x4 x5 i b r k h0 h1 h2]
  simp only [Ideal.mulf_def, Ideal.hostUnary_rsqrt_def, Ideal.addf_def, Ideal.hostDivf_def, Ideal.ofBits_def,
    Ideal.ofBits_zero_f32]
  unfold rms
  refine congrArg₂ (· * ·) (congrArg (_ * ·) (congrArg Ideal.rsqrt (congrArg (· + _) (congrArg (Ideal.div · _)
    (congrArg (0 + ·) (Finset.sum_congr rfl fun q _ => ?_)))))) (eq_at1 (a := 1024) _ _ _ h2)
  rw [val_main_v36_apply, Ideal.mulf_def, v35_at x0 x1 x2 x3 x4 x5 (idx_main_v37 (idx_main_v38 (idx_main_v44 i)) q) b r q.val h0 h1 rfl]

/-- The first result. -/
theorem y_at (i : S1024x1024.Idx) :
    val_main_v49 (F := Ideal) x0 x1 x2 x3 x4 x5 x6 i
      = sout (at2 (a := 1024) (b := 5632) x0) (at2 (a := 1024) (b := 1024) x1) (at4 (a := 1) (b := 128) (c := 2) (d := 5632) x2 0)
          (at3 (a := 1) (b := 3) (c := 5632) x3 0) (at2 (a := 1) (b := 5632) x4 0) (at3 (a := 1) (b := 2816) (c := 1024) x5 0)
          (at1 (a := 1024) x6) (i 0).val (i 1).val := by
  have l0 : (i 0).val < 1024 := (i 0).isLt
  have l1 : (i 1).val < 1024 := (i 1).isLt
  rw [val_main_v49_apply, v48_at x0 x1 x2 x3 x4 x5 x6 _ ((i 0).val / 8) ((i 0).val % 8) (i 1).val
    (by show ((i 0).val * 1024 + (i 1).val) / 8192 = _; omega)
    (by show ((i 0).val * 1024 + (i 1).val) / 1024 % 8 = _; omega)
    (by show ((i 0).val * 1024 + (i 1).val) % 1024 = _; omega)]
  unfold sout downR
  rw [Nat.div_add_mod]

/-- The second result. -/
theorem state_at (i : S128x2x5632.Idx) :
    val_main_v50 (F := Ideal) x0 x2 i = rowsR x0 x2 (i 0).val (4 + (i 1).val) (i 2).val := by
  rw [val_main_v50_apply]
  exact v3_at x0 x2 _ _ _ _ rfl rfl rfl

end Cert.Reference2Ideal.RefValue

end
-- ==== Proof.SampleBlocks.lean ====
/- What a point of the sample kernel is handed: each input block as the matching part of an argument. -/
module

public import proofs.«01_k».proof.Defs
public import proofs.«01_k».proof.Proof.SamplePayload
public import proofs.«01_k».proof.Proof.SampleRef
public import proofs.«01_k».proof.Proof.Blocks
public import proofs.«01_k».proof.Proof.Gen.Reference2Ideal.Run
public import Idealize.ShloMosaic.Lib.Pipeline.ValueKit.Geometry
public import Idealize.ShloMosaic.Lib.Claim

@[expose] public section

noncomputable section

namespace Cert.Kernel2Ideal.Body

open Cert.Kernel2Ideal Cert.Kernel2Ideal.Gen Cert.Ffn
open Cert.KernelIdeal.Body (drop_unit add_unit row_again)
open Idealize.ShloMosaic Idealize.ShloMosaic.TcCoe Idealize.ShloMosaic.ValueIdx Idealize.SL.Sem
open Idealize.ShloMosaic.Pipeline (Dat)

variable (m : (l : Loc nD τ sig) → Buf (Elt Ideal) l) (ρ : Dev nD → PrngReg)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![t.val, 0, 0] := (by decide +kernel : ∀ t : Fin grid0.N, _)

abbrev aU (c : Dev nD) := at2 (a := 1024) (b := 5632) (m ((c : Thread nD τ).loc main_arg0))
abbrev aH (c : Dev nD) := at2 (a := 1024) (b := 1024) (m ((c : Thread nD τ).loc main_arg1))
abbrev aT (c : Dev nD) := at4 (a := 1) (b := 128) (c := 2) (d := 5632) (m ((c : Thread nD τ).loc main_arg2)) 0
abbrev aC (c : Dev nD) := at3 (a := 1) (b := 3) (c := 5632) (m ((c : Thread nD τ).loc main_arg3)) 0
abbrev aB (c : Dev nD) := at2 (a := 1) (b := 5632) (m ((c : Thread nD τ).loc main_arg4)) 0
abbrev aD (c : Dev nD) := at3 (a := 1) (b := 2816) (c := 1024) (m ((c : Thread nD τ).loc main_arg5)) 0
abbrev aF (c : Dev nD) := at1 (a := 1024) (m ((c : Thread nD τ).loc main_arg6))

/-- Dropping the leading unit axis of a rank-four array reads row `0` of it. -/
theorem drop_unit4 {a b d : ℕ} (v : (⟨4, ![1, a, b, d]⟩ : Shape).Idx → EReal) (h : (⟨4, ![1, a, b, d]⟩ : Shape).ShapeCasts ⟨3, ![a, b, d]⟩)
    (E : (⟨3, ![a, b, d]⟩ : Shape).Idx) : shapeCast ⟨3, ![a, b, d]⟩ v h E = at4 v 0 (E 0).val (E 1).val (E 2).val := by
  rw [shapeCast_dropUnit_apply ![a, b, d] v h E]
  exact eq_at4 v _ _ _ _ _ rfl rfl rfl rfl

/-! ## The blocks a point is handed -/

theorem blk_0 (c : Dev nD) (t : Fin cfg0.N) (y : (⟨2, ![128, 5632]⟩ : Shape).Idx) :
    iblk m c 0 t y = aU m c (128 * t.val + (y 0).val) (y 1).val := by
  blk_simp [iblk]
  rw [V_main_arg0]
  refine eq_at2 (a := 1024) (b := 5632) _ _ _ _ ?_ ?_
  · blk_simp [idx_0]; simp; omega
  · blk_simp [idx_0]

theorem blk_1 (c : Dev nD) (t : Fin cfg0.N) (y : (⟨2, ![128, 1024]⟩ : Shape).Idx) :
    iblk m c 1 t y = aH m c (128 * t.val + (y 0).val) (y 1).val := by
  blk_simp [iblk]
  rw [V_main_arg1]
  refine eq_at2 (a := 1024) (b := 1024) _ _ _ _ ?_ ?_
  · blk_simp [idx_1]; simp; omega
  · blk_simp [idx_1]

theorem blk_2 (c : Dev nD) (t : Fin cfg0.N) (y : (⟨3, ![16, 2, 5632]⟩ : Shape).Idx) :
    iblk m c 2 t y = aT m c (16 * t.val + (y 0).val) (y 1).val (y 2).val := by
  have e0 : (((win0_2.blk t).view.emb y 0 : Fin _) : ℕ) = 16 * t.val + (y 0).val := by blk_simp [idx_2]; simp; omega
  have e1 : (((win0_2.blk t).view.emb y 1 : Fin _) : ℕ) = (y 1).val := by blk_simp [idx_2]
  have e2 : (((win0_2.blk t).view.emb y 2 : Fin _) : ℕ) = (y 2).val := by blk_simp [idx_2]
  blk_simp [iblk]
  entry_read
  refine (drop_unit4 _ _ _).trans ?_
  exact congr (congrArg₂ (at4 _ 0) e0 e1) e2

theorem blk_3 (c : Dev nD) (t : Fin cfg0.N) (y : (⟨2, ![3, 5632]⟩ : Shape).Idx) :
    iblk m c 3 t y = aC m c (y 0).val (y 1).val := by
  have e0 : (((win0_3.blk t).view.emb y 0 : Fin _) : ℕ) = (y 0).val := by blk_simp [idx_3]
  have e1 : (((win0_3.blk t).view.emb y 1 : Fin _) : ℕ) = (y 1).val := by blk_simp [idx_3]
  blk_simp [iblk]
  entry_read
  refine (drop_unit _ _ _).trans ?_
  exact congrArg₂ (at3 _ 0) e0 e1

theorem blk_4 (c : Dev nD) (t : Fin cfg0.N) (y : (⟨2, ![1, 5632]⟩ : Shape).Idx) :
    iblk m c 4 t y = aB m c (y 1).val := by
  have e1 : (((win0_4.blk t).view.emb y 1 : Fin _) : ℕ) = (y 1).val := by blk_simp [idx_4]
  blk_simp [iblk]
  entry_read
  refine (row_again _ _ _ _).trans ?_
  exact congrArg (at2 _ 0) e1

theorem blk_5 (c : Dev nD) (t : Fin cfg0.N) (y : (⟨2, ![2816, 1024]⟩ : Shape).Idx) :
    iblk m c 5 t y = aD m c (y 0).val (y 1).val := by
  have e0 : (((win0_5.blk t).view.emb y 0 : Fin _) : ℕ) = (y 0).val := by blk_simp [idx_5]
  have e1 : (((win0_5.blk t).view.emb y 1 : Fin _) : ℕ) = (y 1).val := by blk_simp [idx_5]
  blk_simp [iblk]
  entry_read
  refine (drop_unit _ _ _).trans ?_
  exact congrArg₂ (at3 _ 0) e0 e1

theorem blk_6 (c : Dev nD) (t : Fin cfg0.N) (y : (⟨2, ![1, 1024]⟩ : Shape).Idx) :
    iblk m c 6 t y = aF m c (y 1).val := by
  have e1 : (((win0_6.blk t).view.emb y 1 : Fin _) : ℕ) = (y 1).val := by blk_simp [idx_6]
  blk_simp [iblk]
  entry_read
  refine (add_unit _ _ _).trans ?_
  exact congrArg (at1 _) e1

end Cert.Kernel2Ideal.Body

end
-- ==== Proof.SampleResults.lean ====
/- The sample kernel's two result arrays after its run, as the reference's values of the arguments, and the two runs set
   side by side. -/
module

public import proofs.«01_k».proof.Defs
public import proofs.«01_k».proof.Proof.SamplePayload
public import proofs.«01_k».proof.Proof.SampleRef
public import proofs.«01_k».proof.Proof.SampleBlocks
public import proofs.«01_k».proof.Proof.Gen.Reference2Ideal.Run
public import Idealize.ShloMosaic.Lib.Pipeline.ValueKit.Geometry
public import Idealize.ShloMosaic.Lib.Claim

@[expose] public section

noncomputable section

namespace Cert.Kernel2Ideal.Body

open Cert.Kernel2Ideal Cert.Kernel2Ideal.Gen Cert.Ffn
open Cert.KernelIdeal.Body (drop_unit add_unit row_again)
open Idealize.ShloMosaic Idealize.ShloMosaic.TcCoe Idealize.ShloMosaic.ValueIdx Idealize.SL.Sem
open Idealize.ShloMosaic.Pipeline (Dat)

variable (m : (l : Loc nD τ sig) → Buf (Elt Ideal) l) (ρ : Dev nD → PrngReg)

/-! ## The result arrays -/

/-- The reference's first result of the kernel's arguments. -/
abbrev yRef (c : Dev nD) : S1024x1024.Idx → EReal :=
  Cert.Reference2Ideal.Read.val_main_v49 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
/-- The reference's second result of the kernel's arguments. -/
abbrev stateRef (c : Dev nD) : S128x2x5632.Idx → EReal :=
  Cert.Reference2Ideal.Read.val_main_v50 (F := Ideal) (m ((c : Thread nD τ).loc main_arg0)) (m ((c : Thread nD τ).loc main_arg2))

/-- The rows point `t` leaves for the first result. -/
theorem y_out (c : Dev nD) (t : Fin cfg0.N) (k : S128x1024.Idx) : (outsAt0 m c t).1 k
    = sout (aU m c) (aH m c) (aT m c) (aC m c) (aB m c) (aD m c) (aF m c) (128 * t.val + (k 0).val) (k 1).val := by
  have e := y_point (c := c) (i := grid0.coords t)
    (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t)
    (arg10 := scM0_0) (harg10 := Memref.isWhole_whole _) (arg11 := scM0_1) (harg11 := Memref.isWhole_whole _)
    (x0 := iblk m c 0 t) (x1 := iblk m c 1 t) (x2 := iblk m c 2 t) (x3 := iblk m c 3 t) (x4 := iblk m c 4 t) (x5 := iblk m c 5 t) (x6 := iblk m c 6 t)
    t.val (aU m c) (aH m c) (aT m c) (aC m c) (aB m c) (aD m c) (aF m c) (blk_0 m c t) (blk_1 m c t) (blk_2 m c t)
    (blk_3 m c t) (blk_4 m c t) (blk_5 m c t) (blk_6 m c t) k
  simp only [outsAt0]
  exact e

/-- The rows point `t` leaves for the second result. -/
theorem state_out (c : Dev nD) (t : Fin cfg0.N) (k : S16x2x5632.Idx) : (outsAt0 m c t).2 k
    = rows (aU m c) (aT m c) (16 * t.val + (k 0).val) (4 + (k 1).val) (k 2).val := by
  have e := state_point (c := c) (i := grid0.coords t)
    (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t)
    (arg10 := scM0_0) (harg10 := Memref.isWhole_whole _) (arg11 := scM0_1) (harg11 := Memref.isWhole_whole _)
    (x0 := iblk m c 0 t) (x1 := iblk m c 1 t) (x2 := iblk m c 2 t) (x3 := iblk m c 3 t) (x4 := iblk m c 4 t) (x5 := iblk m c 5 t) (x6 := iblk m c 6 t)
    t.val (aU m c) (aT m c) (blk_0 m c t) (blk_2 m c t) k
  simp only [outsAt0]
  exact e

theorem final_7 (c : Dev nD) : (dats m 0 c).arrAt 7 cfg0.N = yRef m c := by
  refine (dats m 0 c).arrAt_eq_of_covers 7 _ (by decide +kernel) fun t hf y => ?_
  have e0 : (((win0_7.blk t).view.emb y 0 : Fin _) : ℕ) = 128 * t.val + (y 0).val := by blk_simp [idx_7]; simp; omega
  have e1 : (((win0_7.blk t).view.emb y 1 : Fin _) : ℕ) = (y 1).val := by blk_simp [idx_7]
  blk_simp
  rw [after0_7]
  refine (y_out m c t y).trans ?_
  refine Eq.trans ?_ (Cert.Reference2Ideal.RefValue.y_at _ _ _ _ _ _ _ _).symm
  exact congrArg₂ (sout (aU m c) (aH m c) (aT m c) (aC m c) (aB m c) (aD m c) (aF m c)) e0.symm e1.symm

theorem final_8 (c : Dev nD) : (dats m 0 c).arrAt 8 cfg0.N = stateRef m c := by
  refine (dats m 0 c).arrAt_eq_of_covers 8 _ (by decide +kernel) fun t hf y => ?_
  have e0 : (((win0_8.blk t).view.emb y 0 : Fin _) : ℕ) = 16 * t.val + (y 0).val := by blk_simp [idx_8]; simp; omega
  have e1 : (((win0_8.blk t).view.emb y 1 : Fin _) : ℕ) = (y 1).val := by blk_simp [idx_8]
  have e2 : (((win0_8.blk t).view.emb y 2 : Fin _) : ℕ) = (y 2).val := by blk_simp [idx_8]
  blk_simp
  rw [after0_8]
  refine (state_out m c t y).trans ?_
  refine Eq.trans ?_ (Cert.Reference2Ideal.RefValue.state_at _ _ _).symm
  exact congr (congrArg₂ (rows (aU m c) (aT m c)) e0.symm (congrArg (4 + ·) e1.symm)) e2.symm

/-- The kernel's run: both results at the reference's values, the arguments kept. -/
theorem results : θ_run defs (onTc (τ := τ) (main (F := Ideal))) ⟨m, fun _ => 0, ρ⟩ (fun r => ∀ c : Dev nD,
      r.2.mem ((c.tc : Thread nD τ).loc main_v7_0) = yRef m c
      ∧ r.2.mem ((c.tc : Thread nD τ).loc main_v7_1) = stateRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final_7 m c), (h c).2.1.trans (final_8 m c), (h c).2.2⟩)
    (Cert.Kernel2Ideal.Value.run_blocks m ρ)

/-- From equal arguments the two programs leave equal results. -/
theorem algebraic : Cert.algebraic_Kernel2Ideal_Reference2Ideal := fun m g m' g' _ hm =>
  ⟨fun c => yRef m c, fun c => stateRef m c, results m g,
    (θ_run Cert.Reference2Ideal.defs _ _).mono (fun r h c => by
      obtain ⟨h49, h50, hk⟩ := h c
      obtain ⟨a0, a1, a2, a3, a4, a5, a6⟩ := hm c
      refine ⟨h49.trans ((Cert.Reference2Ideal.Read.val_main_v49_eq m' c).trans ?_),
        h50.trans ((Cert.Reference2Ideal.Read.val_main_v50_eq _ _).trans ?_), hk⟩
      · rw [a0, a1, a2, a3, a4, a5, a6]
      · rw [a0, a2]) (Cert.Reference2Ideal.Value.run (F := Ideal) m' g')⟩

end Cert.Kernel2Ideal.Body

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Obligation
public import proofs.«01_k».proof.Proof.Same
public import proofs.«01_k».proof.Proof.Results
public import proofs.«01_k».proof.Proof.SampleResults
public import Idealize.ShloMosaic.Adequacy
public import Idealize.ShloMosaic.Init

@[expose] public section

noncomputable section

namespace Cert.Proof

open Idealize.ShloMosaic Idealize.SL.Sem

theorem frame_kernel : Cert.quiescent_Kernel :=
  Eq.mp Cert.KernelIdeal.Body.quiet_same fun m ρ _ => Cert.KernelIdeal.Body.frame (F := Bits) m ρ

theorem frame_kernelideal : Cert.quiescent_KernelIdeal := fun m ρ _ => Cert.KernelIdeal.Body.frame (F := Ideal) m ρ

theorem frame_referenceideal : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

theorem frame_kernel2 : Cert.quiescent_Kernel2 := fun m ρ _ => Cert.Kernel2.Gen.frame m ρ

theorem frame_kernel2ideal : Cert.quiescent_Kernel2Ideal := fun m ρ _ => Cert.Kernel2Ideal.Gen.frame m ρ

theorem frame_reference2ideal : Cert.quiescent_Reference2Ideal := fun m ρ _ =>
  (θ_run Cert.Reference2Ideal.defs _ _).mono
    (fun r h => ⟨fun c => (h c).2.2, sem_eq_zero_of_no_sems (by decide) r.2⟩) (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  frame_kernel, frame_kernelideal, frame_referenceideal, frame_kernel2, frame_kernel2ideal, frame_reference2ideal,
  trivial, Cert.KernelIdeal.Body.algebraic, trivial, Cert.Kernel2Ideal.Body.algebraic⟩

end Cert.Proof

end
